-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "inv25" .f32 0x3D23D70A#32 ((1 / 25 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v157)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v157) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x16x720x1440 : Shape := ⟨4, ![4, 16, 720, 1440]⟩
abbrev S_ : Shape := ⟨0, ![]⟩

class Facts : Prop where
  bcast_S_S4x16x720x1440 : S_.BroadcastsInDim S4x16x720x1440 (![] : Fin 0 → Fin S4x16x720x1440.rank)

variable [Facts]

def fn {F : FTy → Type} [FloatOps F] (main_arg0 : FVec F S4x16x720x1440 .f32) : IVec S4x16x720x1440 1 :=
  let main_v0 : FVec F S4x16x720x1440 .f32 := Host.absf main_arg0
  let main_cst : FVec F S_ .f32 := constant S_ .f32 0x7F800000#32
  let main_v1 : FVec F S4x16x720x1440 .f32 := broadcastInDim S4x16x720x1440 ![] bcast_S_S4x16x720x1440 main_cst
  let main_v2 : IVec S4x16x720x1440 1 := cmpf .olt main_v0 main_v1
  main_v2
-- ==== Kernel.lean ====
abbrev S4x16x720x1440 : Shape := ⟨4, ![4, 16, 720, 1440]⟩
abbrev S64x720x1440 : Shape := ⟨3, ![64, 720, 1440]⟩
abbrev S720 : Shape := ⟨1, ![720]⟩
abbrev S1440 : Shape := ⟨1, ![1440]⟩
abbrev S_ : Shape := ⟨0, ![]⟩
abbrev S720x1 : Shape := ⟨2, ![720, 1]⟩
abbrev S1x1440 : Shape := ⟨2, ![1, 1440]⟩
abbrev S720x1440 : Shape := ⟨2, ![720, 1440]⟩
abbrev S724x1444 : Shape := ⟨2, ![724, 1444]⟩
abbrev S16x1440 : Shape := ⟨2, ![16, 1440]⟩
abbrev S1x16x1440 : Shape := ⟨3, ![1, 16, 1440]⟩
abbrev S2x16x1440 : Shape := ⟨3, ![2, 16, 1440]⟩
abbrev S720x16 : Shape := ⟨2, ![720, 16]⟩
abbrev S720x32 : Shape := ⟨2, ![720, 32]⟩
abbrev S1x720x32 : Shape := ⟨3, ![1, 720, 32]⟩
abbrev S2x720x32 : Shape := ⟨3, ![2, 720, 32]⟩
abbrev S2x720x1440 : Shape := ⟨3, ![2, 720, 1440]⟩
abbrev S1x720x1440 : Shape := ⟨3, ![1, 720, 1440]⟩
abbrev S719x1440 : Shape := ⟨2, ![719, 1440]⟩
abbrev S2x1440 : Shape := ⟨2, ![2, 1440]⟩
abbrev S718x1440 : Shape := ⟨2, ![718, 1440]⟩
abbrev S720x1439 : Shape := ⟨2, ![720, 1439]⟩
abbrev S720x2 : Shape := ⟨2, ![720, 2]⟩
abbrev S720x1438 : Shape := ⟨2, ![720, 1438]⟩
abbrev S14x1440 : Shape := ⟨2, ![14, 1440]⟩
abbrev S15x1440 : Shape := ⟨2, ![15, 1440]⟩
abbrev S16x2 : Shape := ⟨2, ![16, 2]⟩
abbrev S16x1438 : Shape := ⟨2, ![16, 1438]⟩
abbrev S16x1 : Shape := ⟨2, ![16, 1]⟩
abbrev S16x1439 : Shape := ⟨2, ![16, 1439]⟩
abbrev S12x1440 : Shape := ⟨2, ![12, 1440]⟩
abbrev S1x12x1440 : Shape := ⟨3, ![1, 12, 1440]⟩
abbrev S2x32 : Shape := ⟨2, ![2, 32]⟩
abbrev S718x32 : Shape := ⟨2, ![718, 32]⟩
abbrev S1x32 : Shape := ⟨2, ![1, 32]⟩
abbrev S719x32 : Shape := ⟨2, ![719, 32]⟩
abbrev S720x30 : Shape := ⟨2, ![720, 30]⟩
abbrev S720x31 : Shape := ⟨2, ![720, 31]⟩
abbrev S720x12 : Shape := ⟨2, ![720, 12]⟩
abbrev S1x720x12 : Shape := ⟨3, ![1, 720, 12]⟩

abbrev nBuf : Space → Nat
  | .hbm => 178
  | .vmem => 7
  | .smem => 0
  | _ => 0

abbrev hbmTy0_0 (i : Nat) : BufTy := match i % 128 with
  | 0 => ⟨S4x16x720x1440, .f32⟩
  | 1 => ⟨S64x720x1440, .f32⟩
  | 2 => ⟨S720, .i32⟩
  | 3 => ⟨S1440, .i32⟩
  | 4 => ⟨S_, .i32⟩
  | 5 => ⟨S720, .i32⟩
  | 6 => ⟨S720, .i1⟩
  | 7 => ⟨S_, .i32⟩
  | 8 => ⟨S720, .i32⟩
  | 9 => ⟨S720, .i1⟩
  | 10 => ⟨S720, .i1⟩
  | 11 => ⟨S_, .i32⟩
  | 12 => ⟨S1440, .i32⟩
  | 13 => ⟨S1440, .i1⟩
  | 14 => ⟨S_, .i32⟩
  | 15 => ⟨S1440, .i32⟩
  | 16 => ⟨S1440, .i1⟩
  | 17 => ⟨S1440, .i1⟩
  | 18 => ⟨S720x1, .i1⟩
  | 19 => ⟨S1x1440, .i1⟩
  | 20 => ⟨S720x1440, .i1⟩
  | 21 => ⟨S720x1440, .i1⟩
  | 22 => ⟨S720x1440, .i1⟩
  | 23 => ⟨S720x1440, .f32⟩
  | 24 => ⟨S_, .i32⟩
  | 25 => ⟨S_, .f32⟩
  | 26 => ⟨S724x1444, .f32⟩
  | 27 => ⟨S_, .f32⟩
  | 28 => ⟨S720x1440, .f32⟩
  | 29 => ⟨S720x1440, .f32⟩
  | 30 => ⟨S720x1440, .f32⟩
  | 31 => ⟨S720x1440, .f32⟩
  | 32 => ⟨S720x1440, .f32⟩
  | 33 => ⟨S720x1440, .f32⟩
  | 34 => ⟨S720x1440, .f32⟩
  | 35 => ⟨S720x1440, .f32⟩
  | 36 => ⟨S720x1440, .f32⟩
  | 37 => ⟨S720x1440, .f32⟩
  | 38 => ⟨S720x1440, .f32⟩
  | 39 => ⟨S720x1440, .f32⟩
  | 40 => ⟨S720x1440, .f32⟩
  | 41 => ⟨S720x1440, .f32⟩
  | 42 => ⟨S720x1440, .f32⟩
  | 43 => ⟨S720x1440, .f32⟩
  | 44 => ⟨S720x1440, .f32⟩
  | 45 => ⟨S720x1440, .f32⟩
  | 46 => ⟨S720x1440, .f32⟩
  | 47 => ⟨S720x1440, .f32⟩
  | 48 => ⟨S720x1440, .f32⟩
  | 49 => ⟨S720x1440, .f32⟩
  | 50 => ⟨S720x1440, .f32⟩
  | 51 => ⟨S720x1440, .f32⟩
  | 52 => ⟨S720x1440, .f32⟩
  | 53 => ⟨S720x1440, .f32⟩
  | 54 => ⟨S720x1440, .f32⟩
  | 55 => ⟨S720x1440, .f32⟩
  | 56 => ⟨S720x1440, .f32⟩
  | 57 => ⟨S720x1440, .f32⟩
  | 58 => ⟨S720x1440, .f32⟩
  | 59 => ⟨S720x1440, .f32⟩
  | 60 => ⟨S720x1440, .f32⟩
  | 61 => ⟨S720x1440, .f32⟩
  | 62 => ⟨S720x1440, .f32⟩
  | 63 => ⟨S720x1440, .f32⟩
  | 64 => ⟨S720x1440, .f32⟩
  | 65 => ⟨S720x1440, .f32⟩
  | 66 => ⟨S720x1440, .f32⟩
  | 67 => ⟨S720x1440, .f32⟩
  | 68 => ⟨S720x1440, .f32⟩
  | 69 => ⟨S720x1440, .f32⟩
  | 70 => ⟨S720x1440, .f32⟩
  | 71 => ⟨S720x1440, .f32⟩
  | 72 => ⟨S720x1440, .f32⟩
  | 73 => ⟨S720x1440, .f32⟩
  | 74 => ⟨S720x1440, .f32⟩
  | 75 => ⟨S720x1440, .f32⟩
  | 76 => ⟨S720x1440, .f32⟩
  | 77 => ⟨S720x1440, .f32⟩
  | 78 => ⟨S720x1440, .f32⟩
  | 79 => ⟨S_, .f32⟩
  | 80 => ⟨S720x1440, .f32⟩
  | 81 => ⟨S720x1440, .f32⟩
  | 82 => ⟨S_, .f32⟩
  | 83 => ⟨S720x1440, .f32⟩
  | 84 => ⟨S720x1440, .f32⟩
  | 85 => ⟨S_, .i32⟩
  | 86 => ⟨S_, .f32⟩
  | 87 => ⟨S724x1444, .f32⟩
  | 88 => ⟨S_, .f32⟩
  | 89 => ⟨S720x1440, .f32⟩
  | 90 => ⟨S720x1440, .f32⟩
  | 91 => ⟨S720x1440, .f32⟩
  | 92 => ⟨S720x1440, .f32⟩
  | 93 => ⟨S720x1440, .f32⟩
  | 94 => ⟨S720x1440, .f32⟩
  | 95 => ⟨S720x1440, .f32⟩
  | 96 => ⟨S720x1440, .f32⟩
  | 97 => ⟨S720x1440, .f32⟩
  | 98 => ⟨S720x1440, .f32⟩
  | 99 => ⟨S720x1440, .f32⟩
  | 100 => ⟨S720x1440, .f32⟩
  | 101 => ⟨S720x1440, .f32⟩
  | 102 => ⟨S720x1440, .f32⟩
  | 103 => ⟨S720x1440, .f32⟩
  | 104 => ⟨S720x1440, .f32⟩
  | 105 => ⟨S720x1440, .f32⟩
  | 106 => ⟨S720x1440, .f32⟩
  | 107 => ⟨S720x1440, .f32⟩
  | 108 => ⟨S720x1440, .f32⟩
  | 109 => ⟨S720x1440, .f32⟩
  | 110 => ⟨S720x1440, .f32⟩
  | 111 => ⟨S720x1440, .f32⟩
  | 112 => ⟨S720x1440, .f32⟩
  | 113 => ⟨S720x1440, .f32⟩
  | 114 => ⟨S720x1440, .f32⟩
  | 115 => ⟨S720x1440, .f32⟩
  | 116 => ⟨S720x1440, .f32⟩
  | 117 => ⟨S720x1440, .f32⟩
  | 118 => ⟨S720x1440, .f32⟩
  | 119 => ⟨S720x1440, .f32⟩
  | 120 => ⟨S720x1440, .f32⟩
  | 121 => ⟨S720x1440, .f32⟩
  | 122 => ⟨S720x1440, .f32⟩
  | 123 => ⟨S720x1440, .f32⟩
  | 124 => ⟨S720x1440, .f32⟩
  | 125 => ⟨S720x1440, .f32⟩
  | 126 => ⟨S720x1440, .f32⟩
  | 127 => ⟨S720x1440, .f32⟩
  | _ => ⟨S4x16x720x1440, .f32⟩

abbrev hbmTy0_1 (i : Nat) : BufTy := match i % 128 with
  | 0 => ⟨S720x1440, .f32⟩
  | 1 => ⟨S720x1440, .f32⟩
  | 2 => ⟨S720x1440, .f32⟩
  | 3 => ⟨S720x1440, .f32⟩
  | 4 => ⟨S720x1440, .f32⟩
  | 5 => ⟨S720x1440, .f32⟩
  | 6 => ⟨S720x1440, .f32⟩
  | 7 => ⟨S720x1440, .f32⟩
  | 8 => ⟨S720x1440, .f32⟩
  | 9 => ⟨S720x1440, .f32⟩
  | 10 => ⟨S720x1440, .f32⟩
  | 11 => ⟨S720x1440, .f32⟩
  | 12 => ⟨S_, .f32⟩
  | 13 => ⟨S720x1440, .f32⟩
  | 14 => ⟨S720x1440, .f32⟩
  | 15 => ⟨S_, .f32⟩
  | 16 => ⟨S720x1440, .f32⟩
  | 17 => ⟨S720x1440, .f32⟩
  | 18 => ⟨S_, .f32⟩
  | 19 => ⟨S720x1440, .f32⟩
  | 20 => ⟨S720x1440, .f32⟩
  | 21 => ⟨S720x1440, .f32⟩
  | 22 => ⟨S_, .f32⟩
  | 23 => ⟨S720x1440, .f32⟩
  | 24 => ⟨S720x1440, .f32⟩
  | 25 => ⟨S_, .f32⟩
  | 26 => ⟨S_, .f32⟩
  | 27 => ⟨S720x1440, .f32⟩
  | 28 => ⟨S720x1440, .f32⟩
  | 29 => ⟨S16x1440, .f32⟩
  | 30 => ⟨S16x1440, .f32⟩
  | 31 => ⟨S1x16x1440, .f32⟩
  | 32 => ⟨S1x16x1440, .f32⟩
  | 33 => ⟨S2x16x1440, .f32⟩
  | 34 => ⟨S16x1440, .f32⟩
  | 35 => ⟨S16x1440, .f32⟩
  | 36 => ⟨S1x16x1440, .f32⟩
  | 37 => ⟨S1x16x1440, .f32⟩
  | 38 => ⟨S2x16x1440, .f32⟩
  | 39 => ⟨S720x16, .f32⟩
  | 40 => ⟨S720x16, .f32⟩
  | 41 => ⟨S720x32, .f32⟩
  | 42 => ⟨S720x16, .f32⟩
  | 43 => ⟨S720x16, .f32⟩
  | 44 => ⟨S720x32, .f32⟩
  | 45 => ⟨S1x720x32, .f32⟩
  | 46 => ⟨S1x720x32, .f32⟩
  | 47 => ⟨S2x720x32, .f32⟩
  | 48 => ⟨S64x720x1440, .f32⟩
  | 49 => ⟨S4x16x720x1440, .f32⟩
  | _ => ⟨S4x16x720x1440, .f32⟩

abbrev hbmTy (i : Nat) : BufTy := match i / 128 with
  | 0 => hbmTy0_0 i
  | 1 => hbmTy0_1 i
  | _ => ⟨S4x16x720x1440, .f32⟩

abbrev bufTy : (tb : Table) → Fin (tcTables nBuf tb) → BufTy
  | .hbm, ⟨i, _⟩ => hbmTy i
  | .local _ .vmem, ⟨0, _⟩ => ⟨S2x720x1440, .f32⟩
  | .local _ .vmem, ⟨1, _⟩ => ⟨S2x720x1440, .f32⟩
  | .local _ .vmem, ⟨2, _⟩ => ⟨S2x16x1440, .f32⟩
  | .local _ .vmem, ⟨3, _⟩ => ⟨S2x16x1440, .f32⟩
  | .local _ .vmem, ⟨4, _⟩ => ⟨S2x720x32, .f32⟩
  | .local _ .vmem, ⟨5, _⟩ => ⟨S2x720x1440, .f32⟩
  | .local _ .vmem, ⟨6, _⟩ => ⟨S2x720x1440, .f32⟩
  | _, _ => ⟨S4x16x720x1440, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_v3 : Ref sig .tc := ⟨.hbm, 5, rfl⟩
abbrev main_v4 : Ref sig .tc := ⟨.hbm, 6, rfl⟩
abbrev main_c_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c_1 : Ref sig .tc := ⟨.hbm, 11, rfl⟩
abbrev main_v8 : Ref sig .tc := ⟨.hbm, 12, rfl⟩
abbrev main_v9 : Ref sig .tc := ⟨.hbm, 13, rfl⟩
abbrev main_c_2 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c_3 : Ref sig .tc := ⟨.hbm, 24, rfl⟩
abbrev main_call0_v0 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_cst_4 : Ref sig .tc := ⟨.hbm, 79, rfl⟩
abbrev main_v71 : Ref sig .tc := ⟨.hbm, 80, rfl⟩
abbrev main_v72 : Ref sig .tc := ⟨.hbm, 81, rfl⟩
abbrev main_cst_5 : Ref sig .tc := ⟨.hbm, 82, rfl⟩
abbrev main_v73 : Ref sig .tc := ⟨.hbm, 83, rfl⟩
abbrev main_v74 : Ref sig .tc := ⟨.hbm, 84, rfl⟩
abbrev main_c_6 : Ref sig .tc := ⟨.hbm, 85, rfl⟩
abbrev main_call1_v0 : Ref sig .tc := ⟨.hbm, 86, rfl⟩
abbrev main_v75 : Ref sig .tc := ⟨.hbm, 87, rfl⟩
abbrev main_cst_7 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_cst_8 : Ref sig .tc := ⟨.hbm, 140, rfl⟩
abbrev main_v127 : Ref sig .tc := ⟨.hbm, 141, rfl⟩
abbrev main_v128 : Ref sig .tc := ⟨.hbm, 142, rfl⟩
abbrev main_cst_9 : Ref sig .tc := ⟨.hbm, 143, rfl⟩
abbrev main_v129 : Ref sig .tc := ⟨.hbm, 144, rfl⟩
abbrev main_v130 : Ref sig .tc := ⟨.hbm, 145, rfl⟩
abbrev main_cst_10 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_cst_11 : Ref sig .tc := ⟨.hbm, 150, rfl⟩
abbrev main_v134 : Ref sig .tc := ⟨.hbm, 151, rfl⟩
abbrev main_v135 : Ref sig .tc := ⟨.hbm, 152, rfl⟩
abbrev main_cst_12 : Ref sig .tc := ⟨.hbm, 153, rfl⟩
abbrev main_call3_v0 : Ref sig .tc := ⟨.hbm, 154, rfl⟩
abbrev main_call3_v1 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x720x1440 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x16x1440 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x16x1440 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x720x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x720x1440 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "inv25" => some ((1 / 25 : ℝ) : EReal)
  | _ => none
-- ==== ReferenceIdeal.lean ====
abbrev S4x16x720x1440 : Shape := ⟨4, ![4, 16, 720, 1440]⟩
abbrev S720 : Shape := ⟨1, ![720]⟩
abbrev S1440 : Shape := ⟨1, ![1440]⟩
abbrev S_ : Shape := ⟨0, ![]⟩
abbrev S720x1 : Shape := ⟨2, ![720, 1]⟩
abbrev S1x1440 : Shape := ⟨2, ![1, 1440]⟩
abbrev S720x1440 : Shape := ⟨2, ![720, 1440]⟩
abbrev S1x1x720x1440 : Shape := ⟨4, ![1, 1, 720, 1440]⟩

abbrev nBuf : Space → Nat
  | .hbm => 46
  | .vmem => 0
  | .smem => 0
  | _ => 0

abbrev bufTy : (tb : Table) → Fin (tcTables nBuf tb) → BufTy
  | .hbm, ⟨0, _⟩ => ⟨S4x16x720x1440, .f32⟩
  | .hbm, ⟨1, _⟩ => ⟨S720, .i32⟩
  | .hbm, ⟨2, _⟩ => ⟨S1440, .i32⟩
  | .hbm, ⟨3, _⟩ => ⟨S_, .i32⟩
  | .hbm, ⟨4, _⟩ => ⟨S720, .i32⟩
  | .hbm, ⟨5, _⟩ => ⟨S720, .i1⟩
  | .hbm, ⟨6, _⟩ => ⟨S_, .i32⟩
  | .hbm, ⟨7, _⟩ => ⟨S720, .i32⟩
  | .hbm, ⟨8, _⟩ => ⟨S720, .i1⟩
  | .hbm, ⟨9, _⟩ => ⟨S720, .i1⟩
  | .hbm, ⟨10, _⟩ => ⟨S720x1, .i1⟩
  | .hbm, ⟨11, _⟩ => ⟨S_, .i32⟩
  | .hbm, ⟨12, _⟩ => ⟨S1440, .i32⟩
  | .hbm, ⟨13, _⟩ => ⟨S1440, .i1⟩
  | .hbm, ⟨14, _⟩ => ⟨S_, .i32⟩
  | .hbm, ⟨15, _⟩ => ⟨S1440, .i32⟩
  | .hbm, ⟨16, _⟩ => ⟨S1440, .i1⟩
  | .hbm, ⟨17, _⟩ => ⟨S1440, .i1⟩
  | .hbm, ⟨18, _⟩ => ⟨S1x1440, .i1⟩
  | .hbm, ⟨19, _⟩ => ⟨S720x1440, .i1⟩
  | .hbm, ⟨20, _⟩ => ⟨S720x1440, .i1⟩
  | .hbm, ⟨21, _⟩ => ⟨S720x1440, .i1⟩
  | .hbm, ⟨22, _⟩ => ⟨S720x1440, .f32⟩
  | .hbm, ⟨23, _⟩ => ⟨S_, .f32⟩
  | .hbm, ⟨24, _⟩ => ⟨S720x1440, .f32⟩
  | .hbm, ⟨25, _⟩ => ⟨S720x1440, .f32⟩
  | .hbm, ⟨26, _⟩ => ⟨S1x1x720x1440, .f32⟩
  | .hbm, ⟨27, _⟩ => ⟨S4x16x720x1440, .f32⟩
  | .hbm, ⟨28, _⟩ => ⟨S4x16x720x1440, .f32⟩
  | .hbm, ⟨29, _⟩ => ⟨S_, .f32⟩
  | .hbm, ⟨30, _⟩ => ⟨S4x16x720x1440, .f32⟩
  | .hbm, ⟨31, _⟩ => ⟨S1x1x720x1440, .f32⟩
  | .hbm, ⟨32, _⟩ => ⟨S4x16x720x1440, .f32⟩
  | .hbm, ⟨33, _⟩ => ⟨S4x16x720x1440, .f32⟩
  | .hbm, ⟨34, _⟩ => ⟨S_, .f32⟩
  | .hbm, ⟨35, _⟩ => ⟨S4x16x720x1440, .f32⟩
  | .hbm, ⟨36, _⟩ => ⟨S_, .f32⟩
  | .hbm, ⟨37, _⟩ => ⟨S720x1440, .f32⟩
  | .hbm, ⟨38, _⟩ => ⟨S_, .f32⟩
  | .hbm, ⟨39, _⟩ => ⟨S720x1440, .f32⟩
  | .hbm, ⟨40, _⟩ => ⟨S4x16x720x1440, .i1⟩
  | .hbm, ⟨41, _⟩ => ⟨S4x16x720x1440, .f32⟩
  | .hbm, ⟨42, _⟩ => ⟨S720x1440, .f32⟩
  | .hbm, ⟨43, _⟩ => ⟨S1x1x720x1440, .f32⟩
  | .hbm, ⟨44, _⟩ => ⟨S4x16x720x1440, .f32⟩
  | .hbm, ⟨45, _⟩ => ⟨S4x16x720x1440, .f32⟩
  | _, _ => ⟨S4x16x720x1440, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_c_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c_1 : Ref sig .tc := ⟨.hbm, 11, rfl⟩
abbrev main_v8 : Ref sig .tc := ⟨.hbm, 12, rfl⟩
abbrev main_v9 : Ref sig .tc := ⟨.hbm, 13, rfl⟩
abbrev main_c_2 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_3 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_4 : Ref sig .tc := ⟨.hbm, 34, rfl⟩
abbrev main_v27 : Ref sig .tc := ⟨.hbm, 35, rfl⟩
abbrev main_cst_5 : Ref sig .tc := ⟨.hbm, 36, rfl⟩
abbrev main_v28 : Ref sig .tc := ⟨.hbm, 37, rfl⟩
abbrev main_cst_6 : Ref sig .tc := ⟨.hbm, 38, rfl⟩
abbrev main_v29 : Ref sig .tc := ⟨.hbm, 39, rfl⟩
abbrev main_call0_v0 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Proof.Cover.lean ====
/-
  The stores of one grid point leave no entry of the output block unwritten: each of the block's two images is first
  stored whole.
-/
module

public import Idealize.ShloMosaic.Lib.Ring
public import Idealize.ShloMosaic.Lib.ValueIdx

@[expose] public section

noncomputable section

namespace Cert.Smooth

open Idealize.ShloMosaic

/-- The shape of an output block: two images. -/
abbrev Two : Shape := ⟨3, ![2, 720, 1440]⟩

/-- The rectangle of the block that is image `b` whole. -/
abbrev wholeImage (b : ℕ) (h : ∀ a, (![b, 0, 0] : Fin 3 → ℕ) a + (![1, 720, 1440] : Fin 3 → ℕ) a ≤ Two.size a) : Rect Two :=
  Rect.unit ![b, 0, 0] ![1, 720, 1440] h

/-- An index of the block lies in its own image's rectangle. -/
theorem mem_wholeImage (b : ℕ) (h) (y : Two.Idx) (hy : (y 0).val = b) : y ∈ (wholeImage b h).set := by
  rw [Rect.mem_set_unit]
  intro a
  match a with
  | ⟨0, _⟩ => exact ⟨hy.ge, by show (y 0).val < b + 1; omega⟩
  | ⟨1, _⟩ => exact ⟨Nat.zero_le _, by have := (y 1).isLt; show (y 1).val < 0 + 720; simpa using this⟩
  | ⟨2, _⟩ => exact ⟨Nat.zero_le _, by have := (y 2).isLt; show (y 2).val < 0 + 1440; simpa using this⟩

/-- A list of stores among which both images are stored whole covers the block. -/
theorem cover_of_images {El : EltTy → Type} (L : List (View.Piece El Two .f32)) (h0 h1)
    (k0 : ∃ pc ∈ L, pc.1 = wholeImage 0 h0) (k1 : ∃ pc ∈ L, pc.1 = wholeImage 1 h1) (y : Two.Idx) :
    ∃ pc ∈ L, y ∈ pc.1.set := by
  have hy : (y 0).val < 2 := (y 0).isLt
  rcases (by omega : (y 0).val = 0 ∨ (y 0).val = 1) with e | e
  · obtain ⟨pc, hm, hp⟩ := k0
    exact ⟨pc, hm, by rw [hp]; exact mem_wholeImage 0 h0 y e⟩
  · obtain ⟨pc, hm, hp⟩ := k1
    exact ⟨pc, hm, by rw [hp]; exact mem_wholeImage 1 h1 y e⟩

end Cert.Smooth

end
-- ==== Proof.Window.lean ====
/-
  The mathematics of the smoothing on plain functions of two integers: a five-by-five window sum, the edge band of the
  image, the averages the two programs compute, and the proof that the two ways of averaging agree.
-/
module

public import Idealize.ShloMosaic.PureOps.Ideal
public import Mathlib.Tactic.Abel
public import Mathlib.Tactic.Linarith
public import Mathlib.Tactic.FieldSimp
public import Mathlib.Tactic.Ring

@[expose] public section

noncomputable section

namespace Cert.Smooth

open Idealize.ShloMosaic

/-- The sum of five neighbours on a line, in the order the kernel adds them. -/
def tap {α : Type} [Add α] (f : ℤ → α) (i : ℤ) : α := f (i - 2) + f (i - 1) + f i + f (i + 1) + f (i + 2)

/-- The sum of the five-by-five window around a point: five along the rows, then five along the columns. -/
def win {α : Type} [Add α] (f : ℤ → ℤ → α) (i j : ℤ) : α := tap (fun e => tap (fun d => f d e) i) j

/-- Two tables that agree on a window have the same window sum. The two windows may lie at different places. -/
theorem win_congr {α : Type} [Add α] {f g : ℤ → ℤ → α} {i j i' j' : ℤ}
    (h : ∀ d e : ℤ, -2 ≤ d → d ≤ 2 → -2 ≤ e → e ≤ 2 → f (i + d) (j + e) = g (i' + d) (j' + e)) :
    win f i j = win g i' j' := by
  have row : ∀ e : ℤ, -2 ≤ e → e ≤ 2 →
      tap (fun d => f d (j + e)) i = tap (fun d => g d (j' + e)) i' := fun e h1 h2 => by
    have a := h (-2) e (by omega) (by omega) h1 h2
    have b := h (-1) e (by omega) (by omega) h1 h2
    have c := h 0 e (by omega) (by omega) h1 h2
    have d := h 1 e (by omega) (by omega) h1 h2
    have k := h 2 e (by omega) (by omega) h1 h2
    simp only [← sub_eq_add_neg, add_zero] at a b c d
    simp only [tap]
    rw [a, b, c, d, k]
  have a := row (-2) (by omega) (by omega)
  have b := row (-1) (by omega) (by omega)
  have c := row 0 (by omega) (by omega)
  have d := row 1 (by omega) (by omega)
  have k := row 2 (by omega) (by omega)
  simp only [← sub_eq_add_neg, add_zero] at a b c d
  unfold win
  conv_lhs => unfold tap
  conv_rhs => unfold tap
  exact congrArg₂ _ (congrArg₂ _ (congrArg₂ _ (congrArg₂ _ a b) c) d) k

/-- A window sum of real numbers, taken among the extended reals, is the real window sum. -/
theorem win_coe (f : ℤ → ℤ → ℝ) (i j : ℤ) :
    win (fun a b => ((f a b : ℝ) : EReal)) i j = ((win f i j : ℝ) : EReal) := by
  simp only [win, tap, EReal.coe_add]

/-- The window sum of a sum is the sum of the window sums. -/
theorem win_add (f g : ℤ → ℤ → ℝ) (i j : ℤ) : win (fun a b => f a b + g a b) i j = win f i j + win g i j := by
  simp only [win, tap]; ring

/-- A line of nonnegative numbers: the sum of five is at least the middle one. -/
theorem le_tap {f : ℤ → ℝ} (h : ∀ i, 0 ≤ f i) (i : ℤ) : f i ≤ tap f i := by
  unfold tap
  have := h (i - 2); have := h (i - 1); have := h (i + 1); have := h (i + 2)
  linarith

/-- A table of nonnegative numbers: the window sum is at least the middle one. -/
theorem le_win {f : ℤ → ℤ → ℝ} (h : ∀ i j, 0 ≤ f i j) (i j : ℤ) : f i j ≤ win f i j :=
  (le_tap (fun d => h d j) i).trans (le_tap (f := fun e => tap (fun d => f d e) i)
    (fun e => (h i e).trans (le_tap (fun d => h d e) i)) j)

/-! ## The image and its edge band -/

/-- A point lies in the 720 by 1440 image. -/
def inImg (i j : ℤ) : Prop := (0 ≤ i ∧ i < 720) ∧ (0 ≤ j ∧ j < 1440)

/-- A point lies within ten of the image's edge. -/
def edge (i j : ℤ) : Prop := (i < 10 ∨ 710 ≤ i) ∨ (j < 10 ∨ 1430 ≤ j)

instance (i j : ℤ) : Decidable (inImg i j) := by unfold inImg; infer_instance
instance (i j : ℤ) : Decidable (edge i j) := by unfold edge; infer_instance

/-- One at the image's points of the edge band, zero elsewhere. -/
def edgeOnes (i j : ℤ) : EReal := if inImg i j ∧ edge i j then 1 else 0

/-- One at the image's points off the edge band, zero elsewhere. -/
def innerOnes (i j : ℤ) : EReal := if inImg i j ∧ ¬ edge i j then 1 else 0

/-- The table kept on the edge band and zero off it. -/
def edgePart (X : ℤ → ℤ → EReal) (i j : ℤ) : EReal := if edge i j then X i j else 0

/-- The table kept off the edge band and zero on it. -/
def innerPart (X : ℤ → ℤ → EReal) (i j : ℤ) : EReal := if edge i j then 0 else X i j

/-- The average the reference takes: the window's points of the middle point's own class, over their number. -/
def average (X : ℤ → ℤ → EReal) (i j : ℤ) : EReal :=
  Ideal.div (if edge i j then win (edgePart X) i j else win (innerPart X) i j)
    (if edge i j then win edgeOnes i j else win innerOnes i j)

/-- The factor the kernel puts on the edge band's window sum. -/
def edgeWeight (i j : ℤ) : EReal :=
  if edge i j then Ideal.div 1 (max (win edgeOnes i j) 1) else Ideal.div (-1) (max (win innerOnes i j) 1)

/-- The factor the kernel puts on the whole window sum. -/
def innerWeight (i j : ℤ) : EReal := if edge i j then 0 else Ideal.div 1 (max (win innerOnes i j) 1)

/-- The number of edge points in the window of an edge point is a real number, at least one. -/
theorem edgeCount {i j : ℤ} (hi : inImg i j) (he : edge i j) : ∃ c : ℝ, 1 ≤ c ∧ win edgeOnes i j = (c : EReal) := by
  refine ⟨win (fun a b => if inImg a b ∧ edge a b then (1 : ℝ) else 0) i j, ?_, ?_⟩
  · refine le_trans ?_ (le_win (fun a b => by split_ifs <;> norm_num) i j)
    rw [if_pos ⟨hi, he⟩]
  · rw [← win_coe]; congr 1; funext a b; unfold edgeOnes; split_ifs <;> simp

/-- The number of inner points in the window of an inner point is a real number, at least one. -/
theorem innerCount {i j : ℤ} (hi : inImg i j) (he : ¬ edge i j) :
    ∃ c : ℝ, 1 ≤ c ∧ win innerOnes i j = (c : EReal) := by
  refine ⟨win (fun a b => if inImg a b ∧ ¬ edge a b then (1 : ℝ) else 0) i j, ?_, ?_⟩
  · refine le_trans ?_ (le_win (fun a b => by split_ifs <;> norm_num) i j)
    rw [if_pos ⟨hi, he⟩]
  · rw [← win_coe]; congr 1; funext a b; unfold innerOnes; split_ifs <;> simp

/-- A number at least one is not changed by the maximum with one. -/
theorem max_one {c : ℝ} (h : 1 ≤ c) : max (c : EReal) 1 = (c : EReal) := max_eq_left (by exact_mod_cast h)

/-- In the image the edge weight is positive exactly on the edge band: the kernel reads the band off its sign. -/
theorem edgeWeight_pos {i j : ℤ} (hi : inImg i j) : 0 < edgeWeight i j ↔ edge i j := by
  unfold edgeWeight
  by_cases he : edge i j
  · obtain ⟨c, hc, h⟩ := edgeCount hi he
    have hc0 : (0 : ℝ) < 1 / c := by positivity
    rw [if_pos he, h, max_one hc, Ideal.div_coe (by linarith), one_mul]
    exact ⟨fun _ => he, fun _ => by exact_mod_cast hc0⟩
  · obtain ⟨c, hc, h⟩ := innerCount hi he
    have hc0 : (-1 : ℝ) * (1 / c) ≤ 0 := by have : (0 : ℝ) < 1 / c := by positivity
                                            linarith
    rw [if_neg he, h, max_one hc, Ideal.div_coe (by linarith)]
    refine ⟨fun h0 => absurd h0 (not_lt.mpr ?_), fun h0 => absurd h0 he⟩
    have : ((-1 : EReal)) * ((1 / c : ℝ) : EReal) = (((-1 : ℝ) * (1 / c) : ℝ) : EReal) := by
      rw [EReal.coe_mul]; simp
    rw [this]; exact_mod_cast hc0

/-- The two weighted window sums the kernel adds in a strip are the reference's average, when every value is finite. -/
theorem weighted_eq_average {X : ℤ → ℤ → EReal} {x : ℤ → ℤ → ℝ} (hX : ∀ i j, X i j = (x i j : EReal)) {i j : ℤ}
    (hi : inImg i j) :
    win (edgePart X) i j * edgeWeight i j + win X i j * innerWeight i j = average X i j := by
  unfold edgeWeight innerWeight average
  by_cases he : edge i j
  · obtain ⟨c, hc, h⟩ := edgeCount hi he
    simp only [if_pos he, h, max_one hc]
    rw [Ideal.div_coe (by linarith), Ideal.div_coe (by linarith), one_mul, mul_zero, add_zero]
  · obtain ⟨c, hc, h⟩ := innerCount hi he
    have hc0 : c ≠ 0 := by linarith
    have e1 : edgePart X = fun a b => (((if edge a b then x a b else 0 : ℝ)) : EReal) := by
      funext a b; unfold edgePart; split_ifs <;> simp [hX]
    have e2 : innerPart X = fun a b => (((if edge a b then 0 else x a b : ℝ)) : EReal) := by
      funext a b; unfold innerPart; split_ifs <;> simp [hX]
    have e3 : X = fun a b => ((((if edge a b then x a b else 0) + (if edge a b then 0 else x a b) : ℝ)) : EReal) := by
      funext a b; rw [hX]; split_ifs <;> simp
    simp only [if_neg he, h, max_one hc]
    rw [Ideal.div_coe hc0, Ideal.div_coe hc0, Ideal.div_coe hc0, e1, e2, win_coe, win_coe]
    conv_lhs => enter [2, 1]; rw [e3]
    rw [win_coe, win_add, one_mul]
    have : (-1 : EReal) = ((-1 : ℝ) : EReal) := by simp
    rw [this, ← EReal.coe_mul, ← EReal.coe_mul, ← EReal.coe_mul, ← EReal.coe_mul, ← EReal.coe_add]
    congr 1; ring

/-- Away from the band and its neighbours the whole window is inner, so the plain mean is the reference's average. -/
theorem mean_eq_average (X : ℤ → ℤ → EReal) {i j : ℤ} (h1 : 12 ≤ i) (h2 : i < 708) (h3 : 12 ≤ j) (h4 : j < 1428) :
    win X i j * ((1 / 25 : ℝ) : EReal) = average X i j := by
  have near : ∀ d e : ℤ, -2 ≤ d → d ≤ 2 → -2 ≤ e → e ≤ 2 → inImg (i + d) (j + e) ∧ ¬ edge (i + d) (j + e) := by
    intro d e _ _ _ _; unfold inImg edge; omega
  have he : ¬ edge i j := by unfold edge; omega
  have e1 : win innerOnes i j = ((25 : ℝ) : EReal) := by
    rw [show win innerOnes i j = win (fun _ _ => (((1 : ℝ)) : EReal)) i j from
      win_congr fun d e a b c k => by unfold innerOnes; rw [if_pos (near d e a b c k)]; simp]
    rw [win_coe]; congr 1; simp only [win, tap]; norm_num
  have e2 : win (innerPart X) i j = win X i j :=
    win_congr fun d e a b c k => by unfold innerPart; rw [if_neg (near d e a b c k).2]
  unfold average
  rw [if_neg he, if_neg he, e1, e2, Ideal.div_coe (by norm_num)]

end Cert.Smooth

end
-- ==== Proof.Plane.lean ====
/-
  A plane of numbers read at any two integers: its entry inside, zero outside. What the kernel's shifts (a block of zeros
  beside a cut of the plane) and its five-tap sums read there, at every plane size at once.
-/
module

public import proofs.«01_k».proof.Proof.Window
public import Idealize.ShloMosaic.Lib.ValueIdx
public import Idealize.ShloMosaic.Lib.IdealHost
public import Idealize.ShloMosaic.Lib.Pipeline.Value

@[expose] public section

noncomputable section

namespace Cert.Smooth

open Idealize.ShloMosaic Idealize.ShloMosaic.ValueIdx

/-- The shape of a plane of `h` rows and `w` columns. -/
abbrev Sh (h w : ℕ) : Shape := ⟨2, ![h, w]⟩

/-- A plane of extended reals. -/
abbrev Plane (h w : ℕ) : Type := FVec Ideal (Sh h w) .f32

variable {h w : ℕ}

/-- A plane at two integers: its entry inside, zero outside. -/
def ext (a : Plane h w) (i j : ℤ) : EReal :=
  if H : (0 ≤ i ∧ i < h) ∧ (0 ≤ j ∧ j < w) then a (ix2 ⟨i.toNat, by omega⟩ ⟨j.toNat, by omega⟩) else 0

/-- Inside the plane, at coordinates given as naturals, the reading is the entry. -/
theorem ext_nat (a : Plane h w) {i j : ℕ} (hi : i < h) (hj : j < w) : ext a i j = a (ix2 ⟨i, hi⟩ ⟨j, hj⟩) := by
  unfold ext
  rw [dif_pos (by omega)]
  rfl

/-- At an index of the plane the reading is the entry. -/
theorem ext_idx (a : Plane h w) (k : (Sh h w).Idx) : ext a ((k 0).val : ℤ) ((k 1).val : ℤ) = a k := by
  rw [ext_nat a (idx2_lt0 k) (idx2_lt1 k)]
  exact congrArg a (eq_ix2 k).symm

/-- Outside the plane the reading is zero. -/
theorem ext_out (a : Plane h w) {i j : ℤ} (H : ¬ ((0 ≤ i ∧ i < h) ∧ (0 ≤ j ∧ j < w))) : ext a i j = 0 := dif_neg H

/-- A point inside the plane is a pair of naturals below its sides. -/
theorem inside_nat {i j : ℤ} (H : (0 ≤ i ∧ i < h) ∧ (0 ≤ j ∧ j < w)) :
    ∃ p q : ℕ, p < h ∧ q < w ∧ i = p ∧ j = q :=
  ⟨i.toNat, j.toNat, by omega, by omega, by omega, by omega⟩

/-- A reading that is known at every index, and zero outside, is known everywhere. -/
theorem ext_eq_of {a : Plane h w} {f : ℤ → ℤ → EReal} (hin : ∀ (p : Fin h) (q : Fin w), a (ix2 p q) = f p.val q.val)
    (hout : ∀ i j : ℤ, ¬ ((0 ≤ i ∧ i < h) ∧ (0 ≤ j ∧ j < w)) → f i j = 0) (i j : ℤ) : ext a i j = f i j := by
  by_cases H : (0 ≤ i ∧ i < h) ∧ (0 ≤ j ∧ j < w)
  · obtain ⟨p, q, hp, hq, rfl, rfl⟩ := inside_nat H
    rw [ext_nat a hp hq, hin]
  · rw [ext_out a H, hout i j H]

/-- Planes are added point by point. -/
theorem ext_add (a b : Plane h w) (i j : ℤ) : ext (addf a b : Plane h w) i j = ext a i j + ext b i j := by
  unfold ext; split_ifs
  · rfl
  · exact (add_zero 0).symm

/-! ## The cut of a plane beside a block of zeros -/

/-- A block of zeros. -/
def zeros (h w : ℕ) : Plane h w := broadcast (Sh h w) (Scalar.ofBits (F := Ideal) .f32 0x00000000#32)

/-- Every entry of a block of zeros is zero. -/
theorem zeros_apply (k : (Sh h w).Idx) : zeros h w k = 0 := Ideal.ofBits_zero_f32

/-- A block of a plane lies in it. -/
theorem slices {H W : ℕ} (r c : ℕ) (hr : r + h ≤ H) (hc : c + w ≤ W) : (Sh H W).Slices ![r, c] (Sh h w) :=
  ⟨rfl, fun a => match a with | ⟨0, _⟩ => hr | ⟨1, _⟩ => hc⟩

/-- Two planes one above the other make a plane. -/
theorem stacked {h₁ h₂ : ℕ} (hh : h₁ + h₂ = h) : Shape.Concatenates [Sh h₁ w, Sh h₂ w] (Sh h w) 0 :=
  ⟨le_refl _, fun s hs => by
    simp only [List.mem_cons, List.not_mem_nil, or_false] at hs
    rcases hs with rfl | rfl <;>
      exact ⟨rfl, fun b hb => match b with | ⟨0, _⟩ => absurd rfl hb | ⟨1, _⟩ => rfl⟩,
   by simpa using hh⟩

/-- Two planes side by side make a plane. -/
theorem abutted {w₁ w₂ : ℕ} (hw : w₁ + w₂ = w) : Shape.Concatenates [Sh h w₁, Sh h w₂] (Sh h w) 1 :=
  ⟨le_refl _, fun s hs => by
    simp only [List.mem_cons, List.not_mem_nil, or_false] at hs
    rcases hs with rfl | rfl <;>
      exact ⟨rfl, fun b hb => match b with | ⟨0, _⟩ => rfl | ⟨1, _⟩ => absurd rfl hb⟩,
   by simpa using hw⟩

/-- The block of a plane at row `r` and column `c`. -/
def cut {H W : ℕ} (h w r c : ℕ) (a : Plane H W) (hr : r + h ≤ H) (hc : c + w ≤ W) : Plane h w :=
  extractStridedSlice (Sh h w) ![r, c] a (slices r c hr hc)

/-- A block read at a point is the plane read at that point moved by the block's place. -/
theorem cut_apply {H W : ℕ} (r c : ℕ) (a : Plane H W) (hr : r + h ≤ H) (hc : c + w ≤ W) (p : Fin h) (q : Fin w) :
    cut h w r c a hr hc (ix2 p q) = a (ix2 ⟨r + p.val, by omega⟩ ⟨c + q.val, by omega⟩) :=
  extractStridedSlice_apply _ _ _ _ _ fun a => match a with | ⟨0, _⟩ => rfl | ⟨1, _⟩ => rfl

/-- One plane above another. -/
def stack {h₁ h₂ : ℕ} (a : Plane h₁ w) (b : Plane h₂ w) (hh : h₁ + h₂ = h) : Plane h w :=
  concatenate (Sh h w) 0 [⟨Sh h₁ w, a⟩, ⟨Sh h₂ w, b⟩] (stacked hh)

/-- One plane to the left of another. -/
def abut {w₁ w₂ : ℕ} (a : Plane h w₁) (b : Plane h w₂) (hw : w₁ + w₂ = w) : Plane h w :=
  concatenate (Sh h w) 1 [⟨Sh h w₁, a⟩, ⟨Sh h w₂, b⟩] (abutted hw)

/-- A stack read at a point: the upper plane at its own rows, the lower one at the rows after them. -/
theorem stack_apply {h₁ h₂ : ℕ} (a : Plane h₁ w) (b : Plane h₂ w) (hh : h₁ + h₂ = h) (p : Fin h) (q : Fin w) :
    stack a b hh (ix2 p q) =
      if H : p.val < h₁ then a (ix2 ⟨p.val, H⟩ q) else b (ix2 ⟨p.val - h₁, by omega⟩ q) := by
  unfold stack
  split_ifs with H
  · exact concatenate_pair_apply_left 0 a b _ (ix2 p q) rfl (ix2 ⟨p.val, H⟩ q)
      fun x => match x with | ⟨0, _⟩ => rfl | ⟨1, _⟩ => rfl
  · exact concatenate_pair_apply_right 0 a b _ (ix2 p q) rfl rfl (ix2 ⟨p.val - h₁, by omega⟩ q)
      (fun x hx => match x with | ⟨0, _⟩ => absurd rfl hx | ⟨1, _⟩ => rfl)
      (Nat.sub_add_cancel (Nat.le_of_not_lt H))

/-- Planes side by side read at a point: the left one at its own columns, the right one at the columns after them. -/
theorem abut_apply {w₁ w₂ : ℕ} (a : Plane h w₁) (b : Plane h w₂) (hw : w₁ + w₂ = w) (p : Fin h) (q : Fin w) :
    abut a b hw (ix2 p q) =
      if H : q.val < w₁ then a (ix2 p ⟨q.val, H⟩) else b (ix2 p ⟨q.val - w₁, by omega⟩) := by
  unfold abut
  split_ifs with H
  · exact concatenate_pair_apply_left 1 a b _ (ix2 p q) rfl (ix2 p ⟨q.val, H⟩)
      fun x => match x with | ⟨0, _⟩ => rfl | ⟨1, _⟩ => rfl
  · exact concatenate_pair_apply_right 1 a b _ (ix2 p q) rfl rfl (ix2 p ⟨q.val - w₁, by omega⟩)
      (fun x hx => match x with | ⟨0, _⟩ => rfl | ⟨1, _⟩ => absurd rfl hx)
      (Nat.sub_add_cancel (Nat.le_of_not_lt H))

/-! ## The shifts -/

/-- The plane moved down by `s` rows, zeros above. -/
def down (s : ℕ) (a : Plane h w) (hs : s ≤ h) : Plane h w :=
  stack (zeros s w) (cut (h - s) w 0 0 a (by omega) (by omega)) (by omega)

/-- The plane moved up by `s` rows, zeros below. -/
def up (s : ℕ) (a : Plane h w) (hs : s ≤ h) : Plane h w :=
  stack (cut (h - s) w s 0 a (by omega) (by omega)) (zeros s w) (by omega)

/-- The plane moved right by `s` columns, zeros on the left. -/
def right (s : ℕ) (a : Plane h w) (hs : s ≤ w) : Plane h w :=
  abut (zeros h s) (cut h (w - s) 0 0 a (by omega) (by omega)) (by omega)

/-- The plane moved left by `s` columns, zeros on the right. -/
def left (s : ℕ) (a : Plane h w) (hs : s ≤ w) : Plane h w :=
  abut (cut h (w - s) 0 s a (by omega) (by omega)) (zeros h s) (by omega)

/-- A plane moved down, read at a row of the plane. -/
theorem ext_down (s : ℕ) (a : Plane h w) (hs : s ≤ h) {i : ℤ} (h0 : 0 ≤ i) (h1 : i < h) (j : ℤ) :
    ext (down s a hs) i j = ext a (i - s) j := by
  by_cases hj : 0 ≤ j ∧ j < w
  · obtain ⟨p, q, hp, hq, rfl, rfl⟩ := inside_nat ⟨⟨h0, h1⟩, hj⟩
    rw [ext_nat _ hp hq, down, stack_apply]
    split_ifs with H
    · rw [zeros_apply, ext_out]; simp only at H; omega
    · simp only [not_lt] at H
      rw [cut_apply, show ((p : ℤ) - s) = ((p - s : ℕ) : ℤ) by omega, ext_nat a (by omega) hq]
      simp only [Nat.zero_add]
  · rw [ext_out _ fun H => hj H.2, ext_out _ fun H => hj H.2]

/-- A plane moved up, read at a row of the plane. -/
theorem ext_up (s : ℕ) (a : Plane h w) (hs : s ≤ h) {i : ℤ} (h0 : 0 ≤ i) (h1 : i < h) (j : ℤ) :
    ext (up s a hs) i j = ext a (i + s) j := by
  by_cases hj : 0 ≤ j ∧ j < w
  · obtain ⟨p, q, hp, hq, rfl, rfl⟩ := inside_nat ⟨⟨h0, h1⟩, hj⟩
    rw [ext_nat _ hp hq, up, stack_apply]
    split_ifs with H
    · simp only at H
      rw [cut_apply, show ((p : ℤ) + s) = ((s + p : ℕ) : ℤ) by omega, ext_nat a (by omega) hq]
      simp only [Nat.zero_add]
    · rw [zeros_apply, ext_out]; simp only [not_lt] at H; omega
  · rw [ext_out _ fun H => hj H.2, ext_out _ fun H => hj H.2]

/-- A plane moved right, read at a column of the plane. -/
theorem ext_right (s : ℕ) (a : Plane h w) (hs : s ≤ w) (i : ℤ) {j : ℤ} (h0 : 0 ≤ j) (h1 : j < w) :
    ext (right s a hs) i j = ext a i (j - s) := by
  by_cases hi : 0 ≤ i ∧ i < h
  · obtain ⟨p, q, hp, hq, rfl, rfl⟩ := inside_nat ⟨hi, ⟨h0, h1⟩⟩
    rw [ext_nat _ hp hq, right, abut_apply]
    split_ifs with H
    · rw [zeros_apply, ext_out]; simp only at H; omega
    · simp only [not_lt] at H
      rw [cut_apply, show ((q : ℤ) - s) = ((q - s : ℕ) : ℤ) by omega, ext_nat a hp (by omega)]
      simp only [Nat.zero_add]
  · rw [ext_out _ fun H => hi H.1, ext_out _ fun H => hi H.1]

/-- A plane moved left, read at a column of the plane. -/
theorem ext_left (s : ℕ) (a : Plane h w) (hs : s ≤ w) (i : ℤ) {j : ℤ} (h0 : 0 ≤ j) (h1 : j < w) :
    ext (left s a hs) i j = ext a i (j + s) := by
  by_cases hi : 0 ≤ i ∧ i < h
  · obtain ⟨p, q, hp, hq, rfl, rfl⟩ := inside_nat ⟨hi, ⟨h0, h1⟩⟩
    rw [ext_nat _ hp hq, left, abut_apply]
    split_ifs with H
    · simp only at H
      rw [cut_apply, show ((q : ℤ) + s) = ((s + q : ℕ) : ℤ) by omega, ext_nat a hp (by omega)]
      simp only [Nat.zero_add]
    · rw [zeros_apply, ext_out]; simp only [not_lt] at H; omega
  · rw [ext_out _ fun H => hi H.1, ext_out _ fun H => hi H.1]

/-! ## The five-tap sums -/

/-- Five rows added, one shift each: the strips' column sums. -/
def rows5 (a : Plane h w) (hh : 2 ≤ h) : Plane h w :=
  addf (addf (addf (addf (down 2 a hh) (down 1 a (by omega))) a) (up 1 a (by omega))) (up 2 a hh)

/-- Five columns added, one shift each. -/
def cols5 (a : Plane h w) (hw : 2 ≤ w) : Plane h w :=
  addf (addf (addf (addf (right 2 a hw) (right 1 a (by omega))) a) (left 1 a (by omega))) (left 2 a hw)

/-- The five-by-five sums of a strip. -/
def box5 (a : Plane h w) (hh : 2 ≤ h) (hw : 2 ≤ w) : Plane h w := cols5 (rows5 a hh) hw

/-- Five rows added through the sum of two neighbours. -/
def rows5Fast (a : Plane h w) (hh : 2 ≤ h) : Plane h w :=
  addf (addf (down 2 (addf a (up 1 a (by omega)) : Plane h w) hh) (addf a (up 1 a (by omega)))) (up 2 a hh)

/-- Five columns added through the sum of two neighbours. -/
def cols5Fast (a : Plane h w) (hw : 2 ≤ w) : Plane h w :=
  addf (addf (right 2 (addf a (left 1 a (by omega)) : Plane h w) hw) (addf a (left 1 a (by omega)))) (left 2 a hw)

/-- The five-by-five sums of the whole image. -/
def box5Fast (a : Plane h w) (hh : 2 ≤ h) (hw : 2 ≤ w) : Plane h w := cols5Fast (rows5Fast a hh) hw

/-- Five rows added are the five readings above, at and below a row of the plane. -/
theorem ext_rows5 (a : Plane h w) (hh : 2 ≤ h) {i : ℤ} (h0 : 0 ≤ i) (h1 : i < h) (j : ℤ) :
    ext (rows5 a hh) i j = tap (fun d => ext a d j) i := by
  simp only [rows5, ext_add, ext_down _ _ _ h0 h1, ext_up _ _ _ h0 h1, tap, Nat.cast_ofNat, Nat.cast_one]

/-- Five columns added are the five readings left of, at and right of a column of the plane. -/
theorem ext_cols5 (a : Plane h w) (hw : 2 ≤ w) (i : ℤ) {j : ℤ} (h0 : 0 ≤ j) (h1 : j < w) :
    ext (cols5 a hw) i j = tap (fun e => ext a i e) j := by
  simp only [cols5, ext_add, ext_right _ _ _ i h0 h1, ext_left _ _ _ i h0 h1, tap, Nat.cast_ofNat, Nat.cast_one]

/-- The five-by-five sums of a plane are its window sums. -/
theorem ext_box5 (a : Plane h w) (hh : 2 ≤ h) (hw : 2 ≤ w) {i j : ℤ} (h0 : 0 ≤ i) (h1 : i < h) (k0 : 0 ≤ j)
    (k1 : j < w) : ext (box5 a hh hw) i j = win (ext a) i j := by
  simp only [box5, ext_cols5 _ hw i k0 k1, ext_rows5 a hh h0 h1]
  rfl

/-- Five rows added the fast way, from the third row on. -/
theorem ext_rows5Fast (a : Plane h w) (hh : 2 ≤ h) {i : ℤ} (h0 : 2 ≤ i) (h1 : i < h) (j : ℤ) :
    ext (rows5Fast a hh) i j = tap (fun d => ext a d j) i := by
  have e : i - 2 + 1 = i - 1 := by ring
  simp only [rows5Fast, ext_add, ext_down _ _ _ (by omega : 0 ≤ i) h1, ext_up _ _ _ (by omega : 0 ≤ i) h1, tap,
    Nat.cast_ofNat, Nat.cast_one, ext_up 1 a (by omega) (by omega : 0 ≤ i - 2) (by omega : i - 2 < h), e]
  abel

/-- Five columns added the fast way, from the third column on. -/
theorem ext_cols5Fast (a : Plane h w) (hw : 2 ≤ w) (i : ℤ) {j : ℤ} (h0 : 2 ≤ j) (h1 : j < w) :
    ext (cols5Fast a hw) i j = tap (fun e => ext a i e) j := by
  have e : j - 2 + 1 = j - 1 := by ring
  simp only [cols5Fast, ext_add, ext_right _ _ _ i (by omega : 0 ≤ j) h1, ext_left _ _ _ i (by omega : 0 ≤ j) h1, tap,
    Nat.cast_ofNat, Nat.cast_one, ext_left 1 a (by omega) i (by omega : 0 ≤ j - 2) (by omega : j - 2 < w), e]
  abel

/-- The fast five-by-five sums are window sums from the third row and column on. -/
theorem ext_box5Fast (a : Plane h w) (hh : 2 ≤ h) (hw : 2 ≤ w) {i j : ℤ} (h0 : 2 ≤ i) (h1 : i < h) (k0 : 2 ≤ j)
    (k1 : j < w) : ext (box5Fast a hh hw) i j = win (ext a) i j := by
  simp only [box5Fast, ext_cols5Fast _ hw i k0 k1, ext_rows5Fast a hh h0 h1]
  rfl

/-! ## A strip -/

/-- The plane kept where the weight is positive, zero elsewhere. -/
def keep (a wb : Plane h w) : Plane h w := select (cmpf .ogt wb (zeros h w)) a (zeros h w)

/-- What the kernel computes of a strip `a` under its two planes of weights. -/
def strip (a wb wi : Plane h w) (hh : 2 ≤ h) (hw : 2 ≤ w) : Plane h w :=
  addf (mulf (box5 (keep a wb) hh hw) wb) (mulf (box5 a hh hw) wi)

/-- The kept plane read anywhere: the plane where the weight is positive. -/
theorem ext_keep (a wb : Plane h w) (i j : ℤ) : ext (keep a wb) i j = if 0 < ext wb i j then ext a i j else 0 := by
  refine ext_eq_of (f := fun i j => if 0 < ext wb i j then ext a i j else 0) (fun p q => ?_)
    (fun i j H => by simp only [ext_out a H, ite_self]) i j
  simp only [ext_nat wb p.isLt q.isLt, ext_nat a p.isLt q.isLt]
  show Scalar.select (FloatOps.cmpf (F := Ideal) .ogt (wb (ix2 p q)) (zeros h w (ix2 p q))) _ (zeros h w (ix2 p q)) = _
  rw [zeros_apply]
  show Scalar.select (BitVec.ofBool (decide ((0 : EReal) < wb (ix2 p q)))) (a (ix2 p q)) 0 =
    if 0 < wb (ix2 p q) then a (ix2 p q) else 0
  by_cases H : 0 < wb (ix2 p q)
  · rw [if_pos H, decide_eq_true H]; rfl
  · rw [if_neg H, decide_eq_false H]; rfl

/-- A strip at an index of it, in window sums. -/
theorem strip_apply (a wb wi : Plane h w) (hh : 2 ≤ h) (hw : 2 ≤ w) (p : Fin h) (q : Fin w) :
    strip a wb wi hh hw (ix2 p q) =
      win (ext (keep a wb)) p.val q.val * wb (ix2 p q) + win (ext a) p.val q.val * wi (ix2 p q) := by
  have h0 : (0 : ℤ) ≤ (p.val : ℤ) := by omega
  have h1 : (p.val : ℤ) < h := by omega
  have k0 : (0 : ℤ) ≤ (q.val : ℤ) := by omega
  have k1 : (q.val : ℤ) < w := by omega
  have e1 := ext_box5 (keep a wb) hh hw h0 h1 k0 k1
  have e2 := ext_box5 a hh hw h0 h1 k0 k1
  rw [ext_nat _ p.isLt q.isLt] at e1 e2
  rw [← e1, ← e2]
  rfl

/-- A strip cut from the image: where the strip's window is the image's, and the weights are the image's, the strip's
    entry is the reference's average at the image's point. -/
theorem strip_eq_average {X : ℤ → ℤ → EReal} {x : ℤ → ℤ → ℝ} (hX : ∀ i j, X i j = (x i j : EReal))
    (hout : ∀ i j, ¬ inImg i j → X i j = 0) (a wb wi : Plane h w) (hh : 2 ≤ h) (hw : 2 ≤ w) (p : Fin h) (q : Fin w)
    {i j : ℤ} (hi : inImg i j)
    (ha : ∀ d e : ℤ, -2 ≤ d → d ≤ 2 → -2 ≤ e → e ≤ 2 → ext a (p.val + d) (q.val + e) = X (i + d) (j + e))
    (hb : ∀ d e : ℤ, -2 ≤ d → d ≤ 2 → -2 ≤ e → e ≤ 2 → inImg (i + d) (j + e) →
      ext wb (p.val + d) (q.val + e) = edgeWeight (i + d) (j + e))
    (hwi : wi (ix2 p q) = innerWeight i j) :
    strip a wb wi hh hw (ix2 p q) = average X i j := by
  have e1 : win (ext a) p.val q.val = win X i j := win_congr ha
  have e2 : win (ext (keep a wb)) p.val q.val = win (edgePart X) i j := win_congr fun d e h1 h2 h3 h4 => by
    rw [ext_keep, ha d e h1 h2 h3 h4]
    unfold edgePart
    by_cases H : inImg (i + d) (j + e)
    · rw [hb d e h1 h2 h3 h4 H]
      exact if_congr (edgeWeight_pos H) rfl rfl
    · rw [hout _ _ H, ite_self, ite_self]
  have e3 := hb 0 0 (by omega) (by omega) (by omega) (by omega) (by simpa using hi)
  simp only [add_zero] at e3
  rw [ext_nat wb p.isLt q.isLt] at e3
  rw [strip_apply, e1, e2, e3, hwi, weighted_eq_average hX hi]

end Cert.Smooth

end
-- ==== Proof.Finite.lean ====
/-
  What the precondition says: every entry of the array it is read of is a real number.
-/
module

public import proofs.«01_k».proof.Pre_finite
public import proofs.«01_k».proof.Proof.Plane
public import Idealize.ShloMosaic.PureOps.Ideal

@[expose] public section

noncomputable section

namespace Cert.Smooth

open Idealize.ShloMosaic

/-- The side condition of the precondition's one broadcast. -/
theorem finite_facts : Cert.Pre_finite.Facts where
  bcast_S_S4x16x720x1440 := by decide

/-- The word of infinity. -/
theorem ofBits_top : Ideal.ofBits .f32 0x7F800000#32 = ⊤ := by
  simp [Ideal.ofBits, Ideal.ieee]

/-- A number whose absolute value is below infinity is real. -/
theorem real_of_abs {x : EReal} (h : max x (-x) < ⊤) : ((x.toReal : ℝ) : EReal) = x := by
  have hx := lt_of_le_of_lt (le_max_left x (-x)) h
  have hn := lt_of_le_of_lt (le_max_right x (-x)) h
  refine EReal.coe_toReal hx.ne fun hb => ?_
  rw [hb, EReal.neg_bot] at hn
  exact lt_irrefl _ hn

/-- Under the precondition every entry is real. -/
theorem entries_real [Cert.Pre_finite.Facts] {x : FVec Ideal Cert.Pre_finite.S4x16x720x1440 .f32}
    (h : Cert.Pre_finite.fn (F := Ideal) x = fun _ => 1#1) (k : Cert.Pre_finite.S4x16x720x1440.Idx) :
    (((x k).toReal : ℝ) : EReal) = x k := by
  have hk : BitVec.ofBool (decide (max (x k) (-(x k)) < Ideal.ofBits .f32 0x7F800000#32)) = 1#1 := congrFun h k
  rw [ofBits_top] at hk
  refine real_of_abs (of_decide_eq_true ?_)
  revert hk
  cases decide (max (x k) (-(x k)) < ⊤) <;> decide

/-- A plane of real numbers is read as real numbers, outside as within. -/
theorem ext_real {h w : ℕ} {a : Plane h w} (H : ∀ k, (((a k).toReal : ℝ) : EReal) = a k) (i j : ℤ) :
    ext a i j = (((ext a i j).toReal : ℝ) : EReal) := by
  unfold ext
  split
  · exact (H _).symm
  · simp

end Cert.Smooth

end
-- ==== Proof.LaunchIdeal.lean ====
/-
  The launch of the program over the ideal numbers: what the body leaves at each grid point, and that every run ends.
-/
module

public import proofs.«01_k».proof.Proof.Gen.KernelIdeal.Frame.RunA
public import proofs.«01_k».proof.Proof.Cover
public import Idealize.ShloMosaic.Lib.Claim

@[expose] public section

set_option maxRecDepth 16384

noncomputable section

namespace Cert.Smooth.Ideals

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The stores of the body at grid point `t`, the last one first. -/
def stores (c : Dev nD) (t : Fin cfg0.N) : List (View.Piece (Elt F) S2x720x1440 .f32) :=
  (kernelRun0_A c (grid0.coords t) (ms0_0 t) (hs0_0 t) (ms0_1 t) (hs0_1 t) (ms0_2 t) (hs0_2 t) (ms0_3 t) (hs0_3 t)
    (ms0_4 t) (hs0_4 t) (iblk m c 0 t) (iblk m c 1 t) (iblk m c 2 t) (iblk m c 3 t)).1

/-- The stores cover the output block. -/
theorem stores_cover (c : Dev nD) (t : Fin cfg0.N) (y : S2x720x1440.Idx) : ∃ pc ∈ stores m c t, y ∈ pc.1.set := by
  refine cover_of_images (stores m c t) inb_S2x720x1440_S1x720x1440_0_0_0 inb_S2x720x1440_S1x720x1440_1_0_0 ?_ ?_ y
  · unfold stores kernelRun0_A; dsimp only
    simp only [List.mem_cons, exists_eq_or_imp]
    iterate 9 right
    exact Or.inl trivial
  · unfold stores kernelRun0_A; dsimp only
    simp only [List.mem_cons, exists_eq_or_imp]
    iterate 4 right
    exact Or.inl trivial

/-- What the body leaves in the output block at grid point `t`. -/
def left (c : Dev nD) (t : Fin cfg0.N) : Vec F S2x720x1440 .f32 :=
  VO0_4.read (Elt F) (VO0_4.writes (Elt F) VO0_4.junk (stores m c t))

/-- What the pipeline's arrays and blocks hold: the inputs' blocks stay, the output's block is what the body leaves. -/
def held (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => left m c t
  Φ _ := Pipeline.ΦA spec0 c
  q _ := fullShare
  owed _ := 0

/-- The arrays are as the host operations before the region leave them. -/
theorem held_A (c : Dev nD) (w : Fin cfg0.W) : (held m 0 c).A w = V m c (Pipeline.arrRef spec0 w) := by dsimp only [held]

theorem held_after0 (c : Dev nD) (t : Fin cfg0.N) : (held m 0 c).after 0 t = iblk m c 0 t := by dsimp only [held]
theorem held_after1 (c : Dev nD) (t : Fin cfg0.N) : (held m 0 c).after 1 t = iblk m c 1 t := by dsimp only [held]
theorem held_after2 (c : Dev nD) (t : Fin cfg0.N) : (held m 0 c).after 2 t = iblk m c 2 t := by dsimp only [held]
theorem held_after3 (c : Dev nD) (t : Fin cfg0.N) : (held m 0 c).after 3 t = iblk m c 3 t := by dsimp only [held]
theorem held_after4 (c : Dev nD) (t : Fin cfg0.N) : (held m 0 c).after 4 t = left m c t := by dsimp only [held]

/-- What the body finds at grid point `t`. -/
def found (c : Dev nD) (t : Fin cfg0.N) : sProp 𝕄 :=
  iprop((held m 0 c).Φ t.castSucc ∗ (held m 0 c).owesAt () t.castSucc
    ∗ (∃ d, owns (c : Thread nD τ) (ms0_0 t) fullShare ((held m 0 c).before 0 t d))
    ∗ (∃ d, owns (c : Thread nD τ) (ms0_1 t) fullShare ((held m 0 c).before 1 t d))
    ∗ (∃ d, owns (c : Thread nD τ) (ms0_2 t) fullShare ((held m 0 c).before 2 t d))
    ∗ (∃ d, owns (c : Thread nD τ) (ms0_3 t) fullShare ((held m 0 c).before 3 t d))
    ∗ (∃ d, owns (c : Thread nD τ) (ms0_4 t) fullShare ((held m 0 c).before 4 t d)))

/-- What the body hands back. -/
def handed (c : Dev nD) (t : Fin cfg0.N) : sProp 𝕄 :=
  iprop((held m 0 c).Φ t.succ ∗ (held m 0 c).owesAt () t.succ
    ∗ owns (c : Thread nD τ) (ms0_0 t) fullShare ((held m 0 c).after 0 t)
    ∗ owns (c : Thread nD τ) (ms0_1 t) fullShare ((held m 0 c).after 1 t)
    ∗ owns (c : Thread nD τ) (ms0_2 t) fullShare ((held m 0 c).after 2 t)
    ∗ owns (c : Thread nD τ) (ms0_3 t) fullShare ((held m 0 c).after 3 t)
    ∗ owns (c : Thread nD τ) (ms0_4 t) fullShare ((held m 0 c).after 4 t))

/-- The body at any grid point turns what it finds into what it hands back. -/
theorem body_sound (c : Dev nD) (t : Fin cfg0.N) :
    found m c t ⊢ wp frame (wpE (defs₀ (F := F)) Variants.none c none) Set.univ (bodyAt0 t) (fun _ => handed m c t) := by
  have b0 := before0_0_of m (held m 0 c) (held_A m c 0) (held_after0 m c) t
  have b1 := before0_1_of m (held m 0 c) (held_A m c 1) (held_after1 m c) t
  have b2 := before0_2_of m (held m 0 c) (held_A m c 2) (held_after2 m c) t
  have b3 := before0_3_of m (held m 0 c) (held_A m c 3) (held_after3 m c) t
  unfold found handed bodyAt0
  simp only [b0, b1, b2, b3]
  rw [show (held m 0 c).Φ t.succ = (held m 0 c).Φ t.castSucc from rfl,
    show (held m 0 c).owesAt () t.succ = (held m 0 c).owesAt () t.castSucc from rfl,
    held_after0, held_after1, held_after2, held_after3, held_after4]
  unfold left stores
  iintro ⟨HΦ, Ho, ⟨%d0, H0⟩, ⟨%d1, H1⟩, ⟨%d2, H2⟩, ⟨%d3, H3⟩, ⟨%d4, H4⟩⟩
  iapply ((kernelRun0_A c (grid0.coords t) _ _ _ _ _ _ _ _ _ _ (iblk m c 0 t) (iblk m c 1 t) (iblk m c 2 t)
    (iblk m c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (stores_cover m c t)

/-- The body's obligation at every grid point. -/
theorem body_meets (c : Dev nD) : BodyObligation (held (F := F) m 0 c) (defs₀ (F := F)) Variants.none () Set.univ := fun t => by
  have row : defs₀ (F := F) .tc cfg0.body (cfg0.bodyArgs t (cfg0.slots t)) = bodyAt0 t := by
    unfold defs₀; rw [Defs.onTc_tc]
  rw [bigSep_W0, bigSep_W0, row]
  exact triple_restated (body_sound m c t) rfl .rfl fun _ => .rfl

set_option backward.isDefEq.respectTransparency.types false in
set_option maxHeartbeats 800000 in
/-- The launch: every run ends, with the arrays at what the pipeline leaves, every other buffer at what the operation after
    the region leaves, and every counter at zero. -/
theorem launch : θ_run defs (onTc (τ := τ) (main (F := F))) (s₀ m ρ)
    (fun r => (Pipeline.FramePost cfgs (held m) 0 (Pipeline.afterTail₀ cfgs (held m) 0 (V0 m) [hostOps1])) r ∧ r.2.sem = fun _ => 0) :=
  Pipeline.θ_run_frame_around (Q' := _) cfgs (held m) (0 : Fin 1) launch0 defs₀ Variants.none m ρ main
    (hbody := fun c => (body_meets m c).loose) (hshare := fun c => (held m 0 c).share_full fun _ => rfl)
    (howed := fun _ _ => rfl) (V₀ := V0 m) (opss := [hostOps1]) (hsub := sfx_sub) (hfresh := sfx_fresh) (hkeep := sfx_keeps)
    (hmain := hmain m Variants.none) (hA := held_A m) (hΦ := fun _ _ => rfl)

/-- Every run ends with the argument unchanged and every counter at zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  θ_run_and (frame_of m ρ (held m) (held_A m) ((θ_run defs _ _).mono (fun _ h => h.1) (launch m ρ)))
    ((θ_run defs _ _).mono (fun _ h => h.2) (launch m ρ))

end Cert.Smooth.Ideals

end
-- ==== Proof.KernelRun.lean ====
/-
  The kernel's run read at its result: the operation after the launch hands the smoothed images back in the argument's shape.
-/
module

public import proofs.«01_k».proof.Proof.LaunchIdeal
public import Idealize.ShloMosaic.Lib.StableHlo.Run
public import Idealize.ShloMosaic.Lib.Pipeline.FrameSuffix

@[expose] public section

noncomputable section

namespace Cert.Smooth.Ideals

open Cert.KernelIdeal Cert.KernelIdeal.Gen
open Idealize.ShloMosaic Idealize.ShloMosaic.TcCoe Idealize.ShloMosaic.StableHlo Idealize.SL.Sem

variable {F : FTy → Type} [FloatOps F] [Named F]

variable (m : (ℓ : Loc nD τ sig) → Buf (Elt F) ℓ) (ρ : Dev nD → PrngReg)

/-- What the launch leaves in its output array. -/
def output (c : Dev nD) : Buf (Elt F) ((c : Thread nD τ).loc main_v156) := (held m 0 c).arrAt 4 cfg0.N

/-- The buffers once the launch is over. -/
def leaving (c : Dev nD) : Valuation τ sig (Elt F) :=
  Pipeline.withArrays spec0 c (V0 m c) fun w => (held m 0 c).arrAt w cfg0.N

/-- The output array once the launch is over. -/
theorem leaving_output (c : Dev nD) : leaving m c (Proc.devRef .tc main_v156) = output m c :=
  Pipeline.withArrays_arr spec0 launch0.win.arr_inj c (V0 m c) _ 4

/-- The operation after the launch, read at the result. -/
theorem last_step (W : Valuation τ sig (Elt F)) : after (List.flatten [hostOps1]) W (Proc.devRef .tc main_v157) =
    shapeCast S4x16x720x1440 (W (Proc.devRef .tc main_v156)) shapeCasts_S64x720x1440_S4x16x720x1440 := by
  simp only [hostOps1, List.flatten_cons, List.flatten_nil, List.append_nil, List.cons_append, List.nil_append]
  after_results <;> rfl

/-- The result: the launch's output, the groups apart again. -/
theorem result_eq (c : Dev nD) : Pipeline.afterTail₀ cfgs (held m) 0 (V0 m) [hostOps1] c main_v157 =
    shapeCast S4x16x720x1440 (output m c) shapeCasts_S64x720x1440_S4x16x720x1440 :=
  (last_step (leaving m c)).trans (by rw [leaving_output])

/-- Every run ends with the result read off the launch's output, and the argument unchanged. -/
theorem result : θ_run defs (onTc (τ := τ) (main (F := F))) ⟨m, fun _ => 0, ρ⟩ (fun r => ∀ c : Dev nD,
      r.2.mem ((c.tc : Thread nD τ).loc main_v157) = shapeCast S4x16x720x1440 (output m c) shapeCasts_S64x720x1440_S4x16x720x1440
      ∧ r.2.mem ((c.tc : Thread nD τ).loc main_arg0) = m ((c.tc : Thread nD τ).loc main_arg0)) :=
  (θ_run defs _ _).mono (fun _ h c =>
    ⟨((h.1 c).2 main_v157 (Pipeline.mem_restRefs_of main_v157 (by decide) (by decide))).trans (result_eq m c),
      ((h.1 c).2 main_arg0 (Pipeline.mem_restRefs_of main_arg0 (by decide) (by decide))).trans (W_main_arg0 m (held m) c)⟩)
    (launch m ρ)

end Cert.Smooth.Ideals

end
-- ==== Proof.Block.lean ====
/-
  What the kernel stores at one grid point, image by image, in the words of the planes: the plain mean of the whole image,
  then the top and the bottom strip, then the strip of the two sides.
-/
module

public import proofs.«01_k».proof.Proof.LaunchIdeal
public import proofs.«01_k».proof.Proof.Plane

@[expose] public section

set_option maxRecDepth 16384

noncomputable section

namespace Cert.Smooth

open Cert.KernelIdeal Cert.KernelIdeal.Gen
open Idealize.ShloMosaic Idealize.ShloMosaic.TcCoe Idealize.ShloMosaic.ValueIdx Idealize.ShloMosaic.Tactic Idealize.SL.Sem

variable {h w : ℕ}

/-- A block of two planes. -/
abbrev Pair (h w : ℕ) : Type := Vec Ideal ⟨3, ![2, h, w]⟩ .f32

/-- A plane of a block lies in the block. -/
theorem plane_inb (b : Fin 2) (a : Fin 3) :
    (![b.val, 0, 0] : Fin 3 → ℕ) a + (![1, h, w] : Fin 3 → ℕ) a ≤ (⟨3, ![2, h, w]⟩ : Shape).size a :=
  match a with
  | ⟨0, _⟩ => by have := b.isLt; show b.val + 1 ≤ 2; omega
  | ⟨1, _⟩ => by show 0 + h ≤ h; omega
  | ⟨2, _⟩ => by show 0 + w ≤ w; omega

/-- One plane with a unit axis has as many entries as the plane. -/
theorem unit_casts : (⟨3, ![1, h, w]⟩ : Shape).ShapeCasts (Sh h w) := by
  simp [Shape.ShapeCasts, Shape.numel, Fin.prod_univ_succ]

/-- Likewise the other way round. -/
theorem casts_unit : (Sh h w).ShapeCasts ⟨3, ![1, h, w]⟩ := by
  simp [Shape.ShapeCasts, Shape.numel, Fin.prod_univ_succ]

/-- Plane `b` of a block. -/
def plane (b : Fin 2) (x : Pair h w) : Plane h w :=
  shapeCast (Sh h w) (View.ld x (Rect.unit ![b.val, 0, 0] ![1, h, w] (plane_inb b))) unit_casts

/-- The plane with a unit axis in front, as it is stored. -/
def lifted (a : Plane h w) : FVec Ideal ⟨3, ![1, h, w]⟩ .f32 := shapeCast ⟨3, ![1, h, w]⟩ a casts_unit

/-- The named factor of the plain mean. -/
def mean : EReal := Named.named (F := Ideal) κ "inv25" (φ := .f32) 0x3D23D70A#32

/-- The plain mean of the whole image. -/
def centre (X : Plane 720 1440) : Plane 720 1440 :=
  mulf (box5Fast X (by omega) (by omega)) (broadcast (Sh 720 1440) mean)

/-- The two sides of the image, side by side. -/
def sides (X : Plane 720 1440) : Plane 720 32 :=
  abut (cut 720 16 0 0 X (by omega) (by omega)) (cut 720 16 0 1424 X (by omega) (by omega)) (by omega)

/-- The smoothed top strip of sixteen rows. -/
def topStrip (X : Plane 720 1440) (x : Pair 16 1440) : Plane 16 1440 :=
  strip (cut 16 1440 0 0 X (by omega) (by omega)) (plane 0 x) (plane 1 x) (by omega) (by omega)

/-- The smoothed bottom strip. -/
def lowStrip (X : Plane 720 1440) (x : Pair 16 1440) : Plane 16 1440 :=
  strip (cut 16 1440 704 0 X (by omega) (by omega)) (plane 0 x) (plane 1 x) (by omega) (by omega)

/-- The smoothed sides. -/
def sideStrip (X : Plane 720 1440) (x : Pair 720 32) : Plane 720 32 :=
  strip (sides X) (plane 0 x) (plane 1 x) (by omega) (by omega)

/-- A rectangle of image `b` lies in the block. -/
theorem rect_inb (b : Fin 2) (r c k l : ℕ) (hr : r + k ≤ 720) (hc : c + l ≤ 1440) (a : Fin 3) :
    (![b.val, r, c] : Fin 3 → ℕ) a + (![1, k, l] : Fin 3 → ℕ) a ≤ Two.size a :=
  match a with
  | ⟨0, _⟩ => by have := b.isLt; show b.val + 1 ≤ 2; omega
  | ⟨1, _⟩ => hr
  | ⟨2, _⟩ => hc

/-- A plane stored in image `b` of the output block with its corner at row `r` and column `c`. -/
def put (b : Fin 2) (r c : ℕ) {k l : ℕ} (hr : r + k ≤ 720) (hc : c + l ≤ 1440) (a : Plane k l) :
    View.Piece (Elt Ideal) Two .f32 :=
  ⟨Rect.unit ![b.val, r, c] ![1, k, l] (rect_inb b r c k l hr hc), lifted a⟩

/-- The stores of one image, the last one first. -/
def imageStores (b : Fin 2) (x : Pair 720 1440) (t u : Pair 16 1440) (s : Pair 720 32) :
    List (View.Piece (Elt Ideal) Two .f32) :=
  [put b 0 1428 (by omega) (by omega) (cut 720 12 0 20 (sideStrip (plane b x) s) (by omega) (by omega)),
   put b 0 0 (by omega) (by omega) (cut 720 12 0 0 (sideStrip (plane b x) s) (by omega) (by omega)),
   put b 708 0 (by omega) (by omega) (cut 12 1440 4 0 (lowStrip (plane b x) u) (by omega) (by omega)),
   put b 0 0 (by omega) (by omega) (cut 12 1440 0 0 (topStrip (plane b x) t) (by omega) (by omega)),
   put b 0 0 (by omega) (by omega) (centre (plane b x))]

variable (m : (ℓ : Loc nD τ sig) → Buf (Elt Ideal) ℓ)

/-- The kernel's stores at a grid point are those of its second image after those of its first. -/
theorem stores_eq (c : Dev nD) (t : Fin cfg0.N) :
    Ideals.stores m c t =
      imageStores 1 (iblk m c 0 t) (iblk m c 1 t) (iblk m c 2 t) (iblk m c 3 t) ++
      imageStores 0 (iblk m c 0 t) (iblk m c 1 t) (iblk m c 2 t) (iblk m c 3 t) := by
  unfold Ideals.stores kernelRun0_A
  dsimp only
  sl_unfold_words
  simp only [View.readAt_eq_ld, (hs0_0 t).read_unread, (hs0_1 t).read_unread, (hs0_2 t).read_unread,
    (hs0_3 t).read_unread]
  generalize iblk m c 0 t = x
  generalize iblk m c 1 t = u
  generalize iblk m c 2 t = v
  generalize iblk m c 3 t = s
  rfl

end Cert.Smooth

end
-- ==== Proof.Tables.lean ====
/-
  The tables of weights the host computes before the kernel runs, and the arrays the kernel's windows stage: each read off
  the host's operations as one closed term.
-/
module

public import proofs.«01_k».proof.Proof.Block
public import Idealize.ShloMosaic.Lib.StableHlo.RunRead

@[expose] public section

set_option maxRecDepth 16384

noncomputable section

namespace Cert.Smooth

open Cert.KernelIdeal Cert.KernelIdeal.Gen
open Idealize.ShloMosaic Idealize.ShloMosaic.TcCoe Idealize.ShloMosaic.ValueIdx Idealize.SL.Sem
open Idealize.ShloMosaic.StableHlo (after)

variable {h w : ℕ}

/-- The positions of a line of `n` at which the number is below ten or at least `k`. -/
def ends (n k : ℕ) : IVec ⟨1, ![n]⟩ 1 :=
  ori (cmpi .slt (iotaInDim ⟨1, ![n]⟩ 32 0) fun _ => 10#32) (cmpi .sge (iotaInDim ⟨1, ![n]⟩ 32 0) fun _ => BitVec.ofNat 32 k)

/-- The edge band as the host computes it: the end rows' line and the end columns' line, spread over the image and joined. -/
def band : IVec (Sh 720 1440) 1 :=
  ori (broadcastInDim S720x1440 ![0, 1] bcast_S720x1_S720x1440_0_1
      (broadcastInDim S720x1 ![0] bcast_S720_S720x1_0 (ends 720 710)))
    (broadcastInDim S720x1440 ![0, 1] bcast_S1x1440_S720x1440_0_1
      (broadcastInDim S1x1440 ![1] bcast_S1440_S1x1440_1 (ends 1440 1430)))

/-- One number at every pixel. -/
def splat (b : BitVec 32) : Plane 720 1440 := broadcastInDim S720x1440 ![] bcast_S_S720x1440 (constant S_ .f32 b)

/-- One on the band, zero off it. -/
def bandOnes : Plane 720 1440 := uitofp .f32 band

/-- Zero on the band, one off it. -/
def restOnes : Plane 720 1440 := subf (splat 0x3F800000#32) bandOnes

/-- The image with two rows and columns of zeros on every side. -/
def padded (a : Plane 720 1440) : Plane 724 1444 :=
  pad S724x1444 ![2, 2] ![2, 2] ![0, 0] a (sitofp .f32 (constantI S_ 32 0#32)) pads_S720x1440_S724x1444_220_220 h_S_

/-- The twenty-five shifted images added up, from `z`. -/
def boxSum (z : Plane 720 1440) (y : Plane 724 1444) : Plane 720 1440 :=
  ([0, 1, 2, 3, 4] : List (Fin 5)).foldl (fun s d =>
    ([0, 1, 2, 3, 4] : List (Fin 5)).foldl (fun s e =>
      addf s (cut 720 1440 d.val e.val y (by omega) (by omega))) s) z

/-- The number of marked pixels in the window of each pixel, at least one. -/
def count (a : Plane 720 1440) : Plane 720 1440 :=
  maximumf (boxSum (splat 0x00000000#32) (padded a)) (splat 0x3F800000#32)

/-- The factor on the band's window sum. -/
def edgeTable : Plane 720 1440 :=
  select band (Host.divf (splat 0x3F800000#32) (count bandOnes)) (Host.divf (splat 0xBF800000#32) (count restOnes))

/-- The factor on the whole window sum. -/
def innerTable : Plane 720 1440 :=
  select band (splat 0x00000000#32) (Host.divf (splat 0x3F800000#32) (count restOnes))

/-- Two planes with a unit axis make a block of two. -/
theorem paired : Shape.Concatenates [(⟨3, ![1, h, w]⟩ : Shape), ⟨3, ![1, h, w]⟩] ⟨3, ![2, h, w]⟩ 0 :=
  ⟨le_refl _, fun s hs => by
    simp only [List.mem_cons, List.not_mem_nil, or_false, or_self] at hs
    subst hs
    exact ⟨rfl, fun b hb => match b with | ⟨0, _⟩ => absurd rfl hb | ⟨1, _⟩ => rfl | ⟨2, _⟩ => rfl⟩,
   rfl⟩

/-- The axes a plane keeps are two different ones. -/
theorem axes_differ : Function.Injective (![1, 2] : Fin 2 → Fin 3) := by decide

/-- A plane spreads to one with a unit axis in front. -/
theorem bcast_unit : Shape.BroadcastsInDim (Sh h w) ⟨3, ![1, h, w]⟩ ![1, 2] :=
  ⟨axes_differ, fun a => match a with | ⟨0, _⟩ => .inr rfl | ⟨1, _⟩ => .inr rfl⟩

/-- Two planes as one block. -/
def pairOf (a b : Plane h w) : Pair h w :=
  concatenate ⟨3, ![2, h, w]⟩ 0
    [⟨⟨3, ![1, h, w]⟩, broadcastInDim ⟨3, ![1, h, w]⟩ ![1, 2] bcast_unit a⟩,
     ⟨⟨3, ![1, h, w]⟩, broadcastInDim ⟨3, ![1, h, w]⟩ ![1, 2] bcast_unit b⟩] paired

/-! ## The host's operations, list by list -/

section Steps
variable (X : Valuation τ sig (Elt Ideal))

/-- The first list: the images and the band. -/
theorem step0 :
    after hostOps0 X (Proc.devRef .tc main_v17) = band ∧ after hostOps0 X (Proc.devRef .tc main_v18) = bandOnes ∧
      after hostOps0 X (Proc.devRef .tc main_c_3) = constantI S_ 32 0#32 ∧
      after hostOps0 X (Proc.devRef .tc main_v0) =
        shapeCast S64x720x1440 (X (Proc.devRef .tc main_arg0)) shapeCasts_S4x16x720x1440_S64x720x1440 := by
  after_reads_simp
  and_intros <;> first | exact True.intro | rfl

/-- The band's ones padded. -/
theorem step1 (h17 : X (Proc.devRef .tc main_v17) = band) (h18 : X (Proc.devRef .tc main_v18) = bandOnes)
    (h3 : X (Proc.devRef .tc main_c_3) = constantI S_ 32 0#32) :
    after hostOps0_1 X (Proc.devRef .tc main_v17) = band ∧ after hostOps0_1 X (Proc.devRef .tc main_v18) = bandOnes ∧
      after hostOps0_1 X (Proc.devRef .tc main_v19) = padded bandOnes := by
  after_reads_simp
  rw [h17, h18, h3]
  and_intros <;> first | exact True.intro | rfl

/-- The band's pixels counted, and the rest marked. -/
theorem step2 (h17 : X (Proc.devRef .tc main_v17) = band) (h18 : X (Proc.devRef .tc main_v18) = bandOnes)
    (h19 : X (Proc.devRef .tc main_v19) = padded bandOnes) :
    after hostOps0_2 X (Proc.devRef .tc main_v17) = band ∧
      after hostOps0_2 X (Proc.devRef .tc main_v72) = count bandOnes ∧
      after hostOps0_2 X (Proc.devRef .tc main_v74) = restOnes ∧
      after hostOps0_2 X (Proc.devRef .tc main_c_6) = constantI S_ 32 0#32 := by
  unfold count
  rw [← h19]
  after_reads_simp
  rw [h17, h18]
  and_intros <;> first | exact True.intro | rfl

/-- The rest's ones padded. -/
theorem step3 (h17 : X (Proc.devRef .tc main_v17) = band) (h72 : X (Proc.devRef .tc main_v72) = count bandOnes)
    (h74 : X (Proc.devRef .tc main_v74) = restOnes) (h6 : X (Proc.devRef .tc main_c_6) = constantI S_ 32 0#32) :
    after hostOps0_3 X (Proc.devRef .tc main_v17) = band ∧
      after hostOps0_3 X (Proc.devRef .tc main_v72) = count bandOnes ∧
      after hostOps0_3 X (Proc.devRef .tc main_v75) = padded restOnes := by
  after_reads_simp
  rw [h17, h72, h74, h6]
  and_intros <;> first | exact True.intro | rfl

/-- The rest's pixels counted, and the two quotients of the band's factor. -/
theorem step4 (h17 : X (Proc.devRef .tc main_v17) = band) (h72 : X (Proc.devRef .tc main_v72) = count bandOnes)
    (h75 : X (Proc.devRef .tc main_v75) = padded restOnes) :
    after hostOps0_4 X (Proc.devRef .tc main_v17) = band ∧
      after hostOps0_4 X (Proc.devRef .tc main_v128) = count restOnes ∧
      after hostOps0_4 X (Proc.devRef .tc main_v130) = Host.divf (splat 0x3F800000#32) (count bandOnes) ∧
      after hostOps0_4 X (Proc.devRef .tc main_v132) = Host.divf (splat 0xBF800000#32) (count restOnes) := by
  rw [← h72]
  unfold count
  rw [← h75]
  after_reads_simp
  rw [h17]
  and_intros <;> first | exact True.intro | rfl

/-- The two factors. -/
theorem step57 (h17 : X (Proc.devRef .tc main_v17) = band) (h128 : X (Proc.devRef .tc main_v128) = count restOnes)
    (h130 : X (Proc.devRef .tc main_v130) = Host.divf (splat 0x3F800000#32) (count bandOnes))
    (h132 : X (Proc.devRef .tc main_v132) = Host.divf (splat 0xBF800000#32) (count restOnes)) :
    after hostOps0_7 (after hostOps0_6 (after hostOps0_5 X)) (Proc.devRef .tc main_v133) = edgeTable ∧
      after hostOps0_7 (after hostOps0_6 (after hostOps0_5 X)) (Proc.devRef .tc main_v136) = innerTable := by
  unfold edgeTable innerTable
  rw [← h17, ← h130, ← h132, ← h128]
  after_reads_simp
  and_intros <;> first | exact True.intro | rfl

/-- The three blocks of weights, cut from the two factors. -/
theorem step8 (h133 : X (Proc.devRef .tc main_v133) = edgeTable) (h136 : X (Proc.devRef .tc main_v136) = innerTable) :
    after hostOps0_8 X (Proc.devRef .tc main_v141) =
        pairOf (cut 16 1440 0 0 edgeTable (by omega) (by omega)) (cut 16 1440 0 0 innerTable (by omega) (by omega)) ∧
      after hostOps0_8 X (Proc.devRef .tc main_v146) =
        pairOf (cut 16 1440 704 0 edgeTable (by omega) (by omega)) (cut 16 1440 704 0 innerTable (by omega) (by omega)) ∧
      after hostOps0_8 X (Proc.devRef .tc main_v155) = pairOf (sides edgeTable) (sides innerTable) := by
  rw [← h133, ← h136]
  after_reads_simp
  and_intros <;> first | exact True.intro | rfl

end Steps

variable (m : (ℓ : Loc nD τ sig) → Buf (Elt Ideal) ℓ)

/-- The host's lists of operations one after the other. -/
theorem V0_eq (c : Dev nD) : V0 m c = after hostOps0_8 (after hostOps0_7 (after hostOps0_6 (after hostOps0_5
    (after hostOps0_4 (after hostOps0_3 (after hostOps0_2 (after hostOps0_1 (after hostOps0 fun b => m (c, b))))))))) := by
  simp only [V0, List.flatten_cons, List.flatten_nil, List.append_nil, StableHlo.after_append]

/-- The images, as one list of them. -/
theorem read_images (c : Dev nD) :
    V m c main_v0 = shapeCast S64x720x1440 (m ((c : Thread nD τ).loc main_arg0)) shapeCasts_S4x16x720x1440_S64x720x1440 := by
  unfold V; rw [V0_eq]
  after_reads_simp
  rfl

/-- The three blocks of weights as the kernel finds them. -/
theorem read_tables (c : Dev nD) :
    V m c main_v141 =
        pairOf (cut 16 1440 0 0 edgeTable (by omega) (by omega)) (cut 16 1440 0 0 innerTable (by omega) (by omega)) ∧
      V m c main_v146 =
        pairOf (cut 16 1440 704 0 edgeTable (by omega) (by omega)) (cut 16 1440 704 0 innerTable (by omega) (by omega)) ∧
      V m c main_v155 = pairOf (sides edgeTable) (sides innerTable) := by
  unfold V; rw [V0_eq]
  obtain ⟨a1, a2, a3, -⟩ := step0 fun b => m (c, b)
  obtain ⟨b1, b2, b3⟩ := step1 _ a1 a2 a3
  obtain ⟨c1, c2, c3, c4⟩ := step2 _ b1 b2 b3
  obtain ⟨d1, d2, d3⟩ := step3 _ c1 c2 c3 c4
  obtain ⟨e1, e2, e3, e4⟩ := step4 _ d1 d2 d3
  obtain ⟨f1, f2⟩ := step57 _ e1 e2 e3 e4
  exact step8 _ f1 f2

end Cert.Smooth

end
-- ==== Proof.WindowSum.lean ====
/-
  The host's window sum read at an index: the initial value and the sum over the window's places, and so, for a window of
  five by five with a margin of two and the initial value zero, the window sum of the plane read with zeros outside.
-/
module

public import proofs.«01_k».proof.Proof.Plane

@[expose] public section

noncomputable section

namespace Cert.Smooth

open Idealize.ShloMosaic Idealize.ShloMosaic.ValueIdx
open scoped BigOperators

/-- Five neighbours on a line, as a sum over five places. -/
theorem tap_eq_sum {α : Type} [AddCommMonoid α] (f : ℤ → α) (i : ℤ) : tap f i = ∑ d : Fin 5, f (i + (d.val : ℤ) - 2) := by
  rw [Fin.sum_univ_five]
  have e0 : i + ((0 : Fin 5).val : ℤ) - 2 = i - 2 := by simp
  have e1 : i + ((1 : Fin 5).val : ℤ) - 2 = i - 1 := by show i + 1 - 2 = _; omega
  have e2 : i + ((2 : Fin 5).val : ℤ) - 2 = i := by show i + 2 - 2 = _; omega
  have e3 : i + ((3 : Fin 5).val : ℤ) - 2 = i + 1 := by show i + 3 - 2 = _; omega
  have e4 : i + ((4 : Fin 5).val : ℤ) - 2 = i + 2 := by show i + 4 - 2 = _; omega
  rw [e0, e1, e2, e3, e4]; rfl

/-- The window of five by five, as a sum over its places, row by row. -/
theorem win_eq_sum {α : Type} [AddCommMonoid α] (f : ℤ → ℤ → α) (i j : ℤ) :
    win f i j = ∑ d : Fin 5, ∑ e : Fin 5, f (i + (d.val : ℤ) - 2) (j + (e.val : ℤ) - 2) := by
  unfold win
  rw [tap_eq_sum, Finset.sum_comm]
  exact Finset.sum_congr rfl fun e _ => tap_eq_sum _ i

/-- Adding up a list's values from a start. -/
theorem foldl_add {ι : Type} (g : ι → EReal) (l : List ι) (v : EReal) :
    l.foldl (fun r n => r + g n) v = v + (l.map g).sum := by
  induction l generalizing v with
  | nil => simp
  | cons a l ih => rw [List.foldl_cons, ih, List.map_cons, List.sum_cons, add_assoc]

/-- The host's window sum at an index: the initial value and the sum over the window's places, each giving the operand's
    entry where it lies in the operand and the initial value where it lies in the margin. -/
theorem windowSum_apply {s t u : Shape} (window strides lo hi : Fin s.rank → ℕ) (x : FVec Ideal s .f32)
    (init : FVec Ideal u .f32) (h : s.ReduceWindows window strides lo hi t) (hu : 0 < u.numel) (j : t.Idx) :
    Host.reduceWindowAdd window strides lo hi x init h hu j =
      init (Shape.Idx.first hu) + ∑ k : (⟨s.rank, window⟩ : Shape).Idx,
        (if hin : ∀ a, lo a ≤ (j (a.cast h.1.symm)).val * strides a + (k a).val ∧
            (j (a.cast h.1.symm)).val * strides a + (k a).val - lo a < s.size a
          then x (fun a => ⟨_, (hin a).2⟩) else init (Shape.Idx.first hu) : EReal) := by
  rw [← Equiv.sum_comp (⟨s.rank, window⟩ : Shape).rowMajor.symm, Fin.sum_univ_def]
  unfold Host.reduceWindowAdd
  rw [Ideal.hostReduceWindowAdd_def]
  rw [← foldl_add]
  unfold Ideal.hostReduceWindowAdd Host.reduceWindow
  dsimp only
  refine congrArg (fun f => List.foldl f _ _) (funext fun r => funext fun n => congrArg (r + ·) ?_)
  split_ifs <;> rfl

/-- A sum over the indices of four coordinates, coordinate by coordinate. -/
theorem sum_four {n0 n1 n2 n3 : ℕ} (f : (⟨4, ![n0, n1, n2, n3]⟩ : Shape).Idx → EReal) :
    ∑ i, f i = ∑ a : Fin n0, ∑ b : Fin n1, ∑ c : Fin n2, ∑ d : Fin n3, f (ix4 a b c d) := by
  let e : (⟨4, ![n0, n1, n2, n3]⟩ : Shape).Idx ≃ Fin n0 × Fin n1 × Fin n2 × Fin n3 :=
    ⟨fun i => (i 0, i 1, i 2, i 3), fun p => ix4 p.1 p.2.1 p.2.2.1 p.2.2.2, fun i => (eq_ix4 i).symm, fun _ => rfl⟩
  rw [← Equiv.sum_comp e.symm f]
  simp only [Fintype.sum_prod_type]
  rfl

variable {h w : ℕ}

/-- The window sum of a plane. -/
theorem windowSum_plane {u : Shape} (x : Plane h w) (init : FVec Ideal u .f32)
    (H : (Sh h w).ReduceWindows ![5, 5] ![1, 1] ![2, 2] ![2, 2] (Sh h w)) (hu : 0 < u.numel)
    (h0 : init (Shape.Idx.first hu) = 0) (p : Fin h) (q : Fin w) :
    Host.reduceWindowAdd ![5, 5] ![1, 1] ![2, 2] ![2, 2] x init H hu (ix2 p q) = win (ext x) p.val q.val := by
  rw [windowSum_apply, h0, zero_add, win_eq_sum]
  refine (sum_idx2 _).trans (Finset.sum_congr rfl fun d _ => Finset.sum_congr rfl fun e _ => ?_)
  have hd := d.isLt
  have he := e.isLt
  unfold ext
  by_cases hin : (0 ≤ (p.val : ℤ) + d.val - 2 ∧ (p.val : ℤ) + d.val - 2 < h) ∧ (0 ≤ (q.val : ℤ) + e.val - 2 ∧ (q.val : ℤ) + e.val - 2 < w)
  · rw [dif_pos hin, dif_pos (fun a => match a with
      | ⟨0, _⟩ => show 2 ≤ p.val * 1 + d.val ∧ p.val * 1 + d.val - 2 < h by omega
      | ⟨1, _⟩ => show 2 ≤ q.val * 1 + e.val ∧ q.val * 1 + e.val - 2 < w by omega)]
    refine congrArg x (funext fun a => match a with
      | ⟨0, _⟩ => Fin.ext ?_
      | ⟨1, _⟩ => Fin.ext ?_)
    · show p.val * 1 + d.val - 2 = ((p.val : ℤ) + d.val - 2).toNat; omega
    · show q.val * 1 + e.val - 2 = ((q.val : ℤ) + e.val - 2).toNat; omega
  · rw [dif_neg hin, dif_neg]
    intro H'
    have a0 : 2 ≤ p.val * 1 + d.val ∧ p.val * 1 + d.val - 2 < h := H' 0
    have a1 : 2 ≤ q.val * 1 + e.val ∧ q.val * 1 + e.val - 2 < w := H' 1
    exact hin (by omega)

/-- A stack of planes, counted by two numbers. -/
abbrev Stack (g n h w : ℕ) : Type := FVec Ideal ⟨4, ![g, n, h, w]⟩ .f32

/-- One plane of a stack. -/
def layer {g n : ℕ} (x : Stack g n h w) (a : Fin g) (b : Fin n) : Plane h w := fun k => x (ix4 a b (k 0) (k 1))

/-- The window sum of a stack of planes is that of each plane. -/
theorem windowSum_stack {g n : ℕ} {u : Shape} (x : Stack g n h w) (init : FVec Ideal u .f32)
    (H : (⟨4, ![g, n, h, w]⟩ : Shape).ReduceWindows ![1, 1, 5, 5] ![1, 1, 1, 1] ![0, 0, 2, 2] ![0, 0, 2, 2] ⟨4, ![g, n, h, w]⟩)
    (hu : 0 < u.numel) (h0 : init (Shape.Idx.first hu) = 0) (a : Fin g) (b : Fin n) (p : Fin h) (q : Fin w) :
    Host.reduceWindowAdd ![1, 1, 5, 5] ![1, 1, 1, 1] ![0, 0, 2, 2] ![0, 0, 2, 2] x init H hu (ix4 a b p q) =
      win (ext (layer x a b)) p.val q.val := by
  rw [windowSum_apply, h0, zero_add, win_eq_sum]
  refine (sum_four _).trans ?_
  rw [Fin.sum_univ_one, Fin.sum_univ_one]
  refine Finset.sum_congr rfl fun d _ => Finset.sum_congr rfl fun e _ => ?_
  have hd := d.isLt
  have he := e.isLt
  have ha := a.isLt
  have hb := b.isLt
  unfold ext layer
  by_cases hin : (0 ≤ (p.val : ℤ) + d.val - 2 ∧ (p.val : ℤ) + d.val - 2 < h) ∧ (0 ≤ (q.val : ℤ) + e.val - 2 ∧ (q.val : ℤ) + e.val - 2 < w)
  · rw [dif_pos hin, dif_pos (fun k => match k with
      | ⟨0, _⟩ => show 0 ≤ a.val * 1 + 0 ∧ a.val * 1 + 0 - 0 < g by omega
      | ⟨1, _⟩ => show 0 ≤ b.val * 1 + 0 ∧ b.val * 1 + 0 - 0 < n by omega
      | ⟨2, _⟩ => show 2 ≤ p.val * 1 + d.val ∧ p.val * 1 + d.val - 2 < h by omega
      | ⟨3, _⟩ => show 2 ≤ q.val * 1 + e.val ∧ q.val * 1 + e.val - 2 < w by omega)]
    refine congrArg x (funext fun k => match k with
      | ⟨0, _⟩ => Fin.ext ?_
      | ⟨1, _⟩ => Fin.ext ?_
      | ⟨2, _⟩ => Fin.ext ?_
      | ⟨3, _⟩ => Fin.ext ?_)
    · show a.val * 1 + 0 - 0 = a.val; omega
    · show b.val * 1 + 0 - 0 = b.val; omega
    · show p.val * 1 + d.val - 2 = ((p.val : ℤ) + d.val - 2).toNat; omega
    · show q.val * 1 + e.val - 2 = ((q.val : ℤ) + e.val - 2).toNat; omega
  · rw [dif_neg hin, dif_neg]
    intro H'
    have a0 : 2 ≤ p.val * 1 + d.val ∧ p.val * 1 + d.val - 2 < h := H' 2
    have a1 : 2 ≤ q.val * 1 + e.val ∧ q.val * 1 + e.val - 2 < w := H' 3
    exact hin (by omega)

end Cert.Smooth

end
-- ==== Proof.BlockValue.lean ====
/-
  What one grid point leaves in its output block: the reference's average at every pixel of both images, when the image is
  finite and the tables of weights are the ones of the strips' own pixels.
-/
module

public import proofs.«01_k».proof.Proof.Block
public import Idealize.ShloMosaic.Lib.ViewIndex
public import Idealize.ShloMosaic.Lib.Pipeline.ValueKit.Geometry
public import Idealize.ShloMosaic.PureOps.IdealRules

@[expose] public section

set_option maxRecDepth 16384

noncomputable section

namespace Cert.Smooth

open Cert.KernelIdeal
open Idealize.ShloMosaic Idealize.ShloMosaic.ValueIdx

variable {h w : ℕ}

/-- Plane `b` of a block at a point. -/
theorem plane_apply (b : Fin 2) (x : Pair h w) (p : Fin h) (q : Fin w) : plane b x (ix2 p q) = x (ix3 b p q) := by
  unfold plane
  rw [shapeCast_dropUnit_apply]
  refine congrArg x (Shape.idx3_ext ?_ ?_ ?_)
  · show b.val + 1 * 0 = b.val; omega
  · show 0 + 1 * p.val = p.val; omega
  · show 0 + 1 * q.val = q.val; omega

/-- A plane with a unit axis at a point. -/
theorem lifted_apply (a : Plane h w) (k : (⟨3, ![1, h, w]⟩ : Shape).Idx) : lifted a k = a (ix2 (k 1) (k 2)) := by
  unfold lifted
  rw [shapeCast_addUnit_apply]
  exact congrArg a (funext fun x => match x with | ⟨0, _⟩ => rfl | ⟨1, _⟩ => rfl)

/-- Under one more store, a pixel holds the stored plane's entry where the store reaches it, and what the earlier stores
    left elsewhere. -/
theorem canon_put (b : Fin 2) (r c : ℕ) {k l : ℕ} (hr : r + k ≤ 720) (hc : c + l ≤ 1440) (a : Plane k l)
    (L : List (View.Piece (Elt Ideal) Two .f32)) (b' : Fin 2) (i : Fin 720) (j : Fin 1440) :
    View.canon (put b r c hr hc a :: L) (ix3 b' i j) =
      if H : b' = b ∧ (r ≤ i.val ∧ i.val - r < k) ∧ (c ≤ j.val ∧ j.val - c < l) then
        a (ix2 ⟨i.val - r, H.2.1.2⟩ ⟨j.val - c, H.2.2.2⟩)
      else View.canon L (ix3 b' i j) := by
  split_ifs with H
  · obtain ⟨rfl, ⟨h1, h2⟩, h3, h4⟩ := H
    have e : (ix3 b' i j : Two.Idx) = (Rect.unit ![b'.val, r, c] ![1, k, l] (rect_inb b' r c k l hr hc)).emb
        (ix3 ⟨0, Nat.one_pos⟩ ⟨i.val - r, h2⟩ ⟨j.val - c, h4⟩ : (⟨3, ![1, k, l]⟩ : Shape).Idx) := by
      refine Shape.idx3_ext ?_ ?_ ?_
      · rw [Rect.emb_apply]; show b'.val = b'.val + 1 * 0; omega
      · rw [Rect.emb_apply]; show i.val = r + 1 * (i.val - r); omega
      · rw [Rect.emb_apply]; show j.val = c + 1 * (j.val - c); omega
    rw [e]
    unfold put
    rw [View.canon_cons_emb, lifted_apply]
    rfl
  · refine View.canon_cons_of_not_mem _ _ fun hm => H ?_
    have hm' : (ix3 b' i j : Two.Idx) ∈ (Rect.unit (s := Two) ![b.val, r, c] ![1, k, l] (rect_inb b r c k l hr hc)).set := hm
    rw [Rect.mem_set_unit] at hm'
    have m0 : b.val ≤ b'.val ∧ b'.val < b.val + 1 := hm' 0
    have m1 : r ≤ i.val ∧ i.val < r + k := hm' 1
    have m2 : c ≤ j.val ∧ j.val < c + l := hm' 2
    exact ⟨Fin.ext (by omega), ⟨m1.1, by omega⟩, m2.1, by omega⟩

/-- A cut read at a point where it either has an entry or the plane has none. -/
theorem ext_cut {H W : ℕ} (r c : ℕ) (a : Plane H W) (hr : r + h ≤ H) (hc : c + w ≤ W) (i j : ℤ)
    (hp : ((0 ≤ i ∧ i < h) ∧ (0 ≤ j ∧ j < w)) ∨ ¬ ((0 ≤ r + i ∧ r + i < H) ∧ (0 ≤ c + j ∧ c + j < W))) :
    ext (cut h w r c a hr hc) i j = ext a (r + i) (c + j) := by
  by_cases G : (0 ≤ i ∧ i < h) ∧ (0 ≤ j ∧ j < w)
  · obtain ⟨p, q, h1, h2, rfl, rfl⟩ := inside_nat G
    rw [ext_nat _ h1 h2, cut_apply, show (r : ℤ) + p = ((r + p : ℕ) : ℤ) by omega,
      show (c : ℤ) + q = ((c + q : ℕ) : ℤ) by omega, ext_nat a (by omega) (by omega)]
  · rw [ext_out _ G, ext_out _ (hp.resolve_left G)]

/-- The image's column under a column of the two sides. -/
def sideCol (j : ℤ) : ℤ := if j < 16 then j else j + 1408

/-- The two sides read anywhere. -/
theorem ext_sides (X : Plane 720 1440) (i j : ℤ) : ext (sides X) i j = ext X i (sideCol j) := by
  by_cases H : (0 ≤ i ∧ i < 720) ∧ (0 ≤ j ∧ j < 32)
  · obtain ⟨p, q, h1, h2, rfl, rfl⟩ := inside_nat (h := 720) (w := 32) (by exact_mod_cast H)
    rw [ext_nat _ h1 h2, sides, abut_apply]
    unfold sideCol
    split_ifs with G G' G'
    · rw [cut_apply]; simp only [Nat.zero_add]; rw [← ext_nat X]
    · simp only at G; omega
    · simp only at G; omega
    · simp only [not_lt] at G
      rw [cut_apply, show ((q : ℤ) + 1408) = ((1424 + (q - 16) : ℕ) : ℤ) by omega, ← ext_nat X]
      simp only [Nat.zero_add]
  · rw [ext_out _ (by exact_mod_cast H), ext_out]
    unfold sideCol
    push_cast
    split_ifs <;> omega

/-- A block of weights holds the weights of the image's pixels under it. -/
def Weights (x : Pair h w) (row col : ℤ → ℤ) : Prop :=
  ∀ (p : Fin h) (q : Fin w), x (ix3 0 p q) = edgeWeight (row p.val) (col q.val) ∧
    x (ix3 1 p q) = innerWeight (row p.val) (col q.val)

/-- A smoothed strip of the image holds the reference's average at every point whose window lies in the strip as it lies in
    the image. -/
theorem strip_value {X : Plane 720 1440} {v : ℤ → ℤ → ℝ} (hX : ∀ i j, ext X i j = (v i j : EReal)) (A : Plane h w)
    (x : Pair h w) (hh : 2 ≤ h) (hw : 2 ≤ w) {row col : ℤ → ℤ} (hx : Weights x row col) (p : Fin h) (q : Fin w)
    (hi : inImg (row p.val) (col q.val))
    (hA : ∀ d e : ℤ, -2 ≤ d → d ≤ 2 → -2 ≤ e → e ≤ 2 →
      ext A (p.val + d) (q.val + e) = ext X (row p.val + d) (col q.val + e))
    (hrow : ∀ d : ℤ, -2 ≤ d → d ≤ 2 → 0 ≤ row p.val + d → row p.val + d < 720 →
      (0 ≤ p.val + d ∧ p.val + d < h) ∧ row (p.val + d) = row p.val + d)
    (hcol : ∀ e : ℤ, -2 ≤ e → e ≤ 2 → 0 ≤ col q.val + e → col q.val + e < 1440 →
      (0 ≤ q.val + e ∧ q.val + e < w) ∧ col (q.val + e) = col q.val + e) :
    strip A (plane 0 x) (plane 1 x) hh hw (ix2 p q) = average (ext X) (row p.val) (col q.val) := by
  refine strip_eq_average hX (fun i j H => ext_out X H) A _ _ hh hw p q hi hA (fun d e h1 h2 h3 h4 H => ?_) ?_
  · obtain ⟨r1, r2⟩ := hrow d h1 h2 H.1.1 H.1.2
    obtain ⟨c1, c2⟩ := hcol e h3 h4 H.2.1 H.2.2
    rw [← r2, ← c2]
    obtain ⟨a, b, ha, hb, ea, eb⟩ := inside_nat ⟨r1, c1⟩
    rw [ea, eb, ext_nat _ ha hb, plane_apply, (hx ⟨a, ha⟩ ⟨b, hb⟩).1]
  · rw [plane_apply, (hx p q).2]

/-- The named factor is one over twenty-five. -/
theorem mean_eq : mean = ((1 / 25 : ℝ) : EReal) := IdealRules.named_const.ideal_named_scalar _ _ _ _ rfl

/-- The pixels of one image after its stores: the reference's averages. -/
theorem image_value (b : Fin 2) (x : Pair 720 1440) {t u : Pair 16 1440} {s : Pair 720 32}
    (L : List (View.Piece (Elt Ideal) Two .f32)) {v : ℤ → ℤ → ℝ} (hX : ∀ i j, ext (plane b x) i j = (v i j : EReal))
    (ht : Weights t (fun i => i) fun j => j) (hu : Weights u (fun i => 704 + i) fun j => j)
    (hs : Weights s (fun i => i) sideCol) (i : Fin 720) (j : Fin 1440) :
    View.canon (imageStores b x t u s ++ L) (ix3 b i j) = average (ext (plane b x)) i.val j.val := by
  have hi := i.isLt
  have hj := j.isLt
  simp only [imageStores, List.cons_append, List.nil_append]
  rw [canon_put]
  split_ifs with H1
  · rw [cut_apply]
    refine (strip_value hX (sides _) s _ _ hs ⟨0 + (i.val - 0), by omega⟩ ⟨20 + (j.val - 1428), by omega⟩ ?_ ?_ ?_ ?_).trans ?_
    · unfold inImg sideCol; simp only; split_ifs <;> omega
    · intro d e h1 h2 h3 h4
      rw [ext_sides]; congr 1
      · unfold sideCol; simp only; split_ifs <;> omega
    · exact fun d h1 h2 h3 h4 => ⟨by simp only at *; omega, rfl⟩
    · intro e h1 h2 h3 h4; unfold sideCol at *; simp only at *; split_ifs at * <;> omega
    · congr 1
      · simp only; omega
      · unfold sideCol; simp only; split_ifs <;> omega
  rw [canon_put]
  split_ifs with H2
  · rw [cut_apply]
    refine (strip_value hX (sides _) s _ _ hs ⟨0 + (i.val - 0), by omega⟩ ⟨0 + (j.val - 0), by omega⟩ ?_ ?_ ?_ ?_).trans ?_
    · unfold inImg sideCol; simp only; split_ifs <;> omega
    · intro d e h1 h2 h3 h4
      rw [ext_sides]; congr 1
      · unfold sideCol; simp only; split_ifs <;> omega
    · exact fun d h1 h2 h3 h4 => ⟨by simp only at *; omega, rfl⟩
    · intro e h1 h2 h3 h4; unfold sideCol at *; simp only at *; split_ifs at * <;> omega
    · congr 1
      · simp only; omega
      · unfold sideCol; simp only; split_ifs <;> omega
  rw [canon_put]
  split_ifs with H3
  · rw [cut_apply]
    refine (strip_value hX (cut 16 1440 704 0 _ _ _) u _ _ hu ⟨4 + (i.val - 708), by omega⟩ ⟨0 + (j.val - 0), by omega⟩ ?_ ?_ ?_ ?_).trans ?_
    · unfold inImg; simp only; omega
    · intro d e h1 h2 h3 h4
      rw [ext_cut _ _ _ _ _ _ _ (by simp only; omega)]
      congr 1
      · simp only; omega
      · simp only; omega
    · intro d h1 h2 h3 h4; simp only at *; omega
    · exact fun e h1 h2 h3 h4 => ⟨by simp only at *; omega, rfl⟩
    · congr 1 <;> (simp only; omega)
  rw [canon_put]
  split_ifs with H4
  · rw [cut_apply]
    refine (strip_value hX (cut 16 1440 0 0 _ _ _) t _ _ ht ⟨0 + (i.val - 0), by omega⟩ ⟨0 + (j.val - 0), by omega⟩ ?_ ?_ ?_ ?_).trans ?_
    · unfold inImg; simp only; omega
    · intro d e h1 h2 h3 h4
      rw [ext_cut _ _ _ _ _ _ _ (by simp only; omega)]
      congr 1
      · simp only; omega
      · simp only; omega
    · exact fun d h1 h2 h3 h4 => ⟨by simp only at *; omega, rfl⟩
    · exact fun e h1 h2 h3 h4 => ⟨by simp only at *; omega, rfl⟩
    · congr 1 <;> (simp only; omega)
  rw [canon_put, dif_pos ⟨rfl, by omega, by omega⟩]
  simp only [Nat.sub_zero, true_and, Nat.zero_le] at H1 H2 H3 H4 ⊢
  show box5Fast (plane b x) _ _ (ix2 i j) * mean = _
  rw [mean_eq, ← mean_eq_average _ (i := (i.val : ℤ)) (j := (j.val : ℤ)) (by omega) (by omega) (by omega) (by omega),
    ← ext_box5Fast (plane b x) (by omega) (by omega) (by omega) (by omega) (by omega) (by omega),
    ext_nat _ i.isLt j.isLt]

/-- The stores of one image leave the other image alone. -/
theorem image_other (b b' : Fin 2) (hb : b' ≠ b) (x : Pair 720 1440) (t u : Pair 16 1440) (s : Pair 720 32)
    (L : List (View.Piece (Elt Ideal) Two .f32)) (i : Fin 720) (j : Fin 1440) :
    View.canon (imageStores b x t u s ++ L) (ix3 b' i j) = View.canon L (ix3 b' i j) := by
  simp only [imageStores, List.cons_append, List.nil_append, canon_put, hb, false_and, dite_false]

/-- After the stores of both images every pixel of the block holds the reference's average. -/
theorem block_value (x : Pair 720 1440) {t u : Pair 16 1440} {s : Pair 720 32} {v : Fin 2 → ℤ → ℤ → ℝ}
    (hX : ∀ b i j, ext (plane b x) i j = (v b i j : EReal))
    (ht : Weights t (fun i => i) fun j => j) (hu : Weights u (fun i => 704 + i) fun j => j)
    (hs : Weights s (fun i => i) sideCol) (b : Fin 2) (i : Fin 720) (j : Fin 1440) :
    View.canon (imageStores 1 x t u s ++ imageStores 0 x t u s) (ix3 b i j) =
      average (ext (plane b x)) i.val j.val := by
  match b with
  | ⟨1, _⟩ => exact image_value 1 x _ (hX 1) ht hu hs i j
  | ⟨0, _⟩ =>
    refine (image_other 1 0 (by decide) x t u s _ i j).trans ?_
    have := image_value 0 x [] (hX 0) ht hu hs i j
    rwa [List.append_nil] at this

end Cert.Smooth

end
-- ==== Proof.TableValue.lean ====
/-
  The host's tables read at a pixel: the band, the counts of a pixel's neighbours of either class, and the two factors.
-/
module

public import proofs.«01_k».proof.Proof.Tables
public import proofs.«01_k».proof.Proof.WindowSum
public import proofs.«01_k».proof.Proof.BlockValue
public import Idealize.ShloMosaic.Lib.KernelVsHost
public import Idealize.ShloMosaic.Lib.Affine

@[expose] public section

noncomputable section

namespace Cert.Smooth

open Cert.KernelIdeal Cert.KernelIdeal.Gen
open Idealize.ShloMosaic Idealize.ShloMosaic.TcCoe Idealize.ShloMosaic.ValueIdx Idealize.SL.Sem

/-- The bit of a proposition. -/
abbrev bit (P : Prop) [Decidable P] : BitVec 1 := BitVec.ofBool (decide P)

/-- The bit of a proposition is one exactly when it holds. -/
theorem bit_eq_one {P : Prop} [Decidable P] : bit P = 1#1 ↔ P := by
  by_cases hP : P
  · exact ⟨fun _ => hP, fun _ => by unfold bit; rw [decide_eq_true hP]; rfl⟩
  · exact ⟨fun h => absurd h (by unfold bit; rw [decide_eq_false hP]; decide), fun h => absurd h hP⟩

/-- Two bits that are one together are equal. -/
theorem bits_eq (b c : BitVec 1) (h : b = 1#1 ↔ c = 1#1) : b = c := by
  revert b c; decide

/-- A bit that is one exactly when the proposition holds is its bit. -/
theorem eq_bit {b : BitVec 1} {P : Prop} [Decidable P] (h : b = 1#1 ↔ P) : b = bit P :=
  bits_eq b _ (h.trans bit_eq_one.symm)

/-- Selecting by the bit of a proposition. -/
theorem select_bit {α : Type} {P : Prop} [Decidable P] (a b : α) : Scalar.select (bit P) a b = if P then a else b :=
  if_congr bit_eq_one rfl rfl

/-- A small natural number's word reads back as the number. -/
theorem word_toInt {n : ℕ} (h : n < 2 ^ 31) : (BitVec.ofNat 32 n).toInt = n := by
  rw [BitVec.toInt_eq_toNat_of_lt (by rw [BitVec.toNat_ofNat]; omega), BitVec.toNat_ofNat, Nat.mod_eq_of_lt (by omega)]

/-- The ends of a line at a position. -/
theorem ends_apply {n k : ℕ} (hn : n < 2 ^ 31) (hk : k < 2 ^ 31) (p : Fin n) :
    ends n k (ix1 p) = bit ((p.val : ℤ) < 10 ∨ (k : ℤ) ≤ p.val) := by
  refine eq_bit ?_
  show IntOp.ori (IntOp.cmpi .slt (BitVec.ofNat 32 p.val) (BitVec.ofNat 32 10)) (IntOp.cmpi .sge (BitVec.ofNat 32 p.val) (BitVec.ofNat 32 k)) = 1#1 ↔ _
  rw [IntOp.ori_eq_one, IntOp.cmpi_slt, IntOp.cmpi_sge, word_toInt (by omega), word_toInt (by omega), word_toInt hk]
  rfl

/-- The band at a pixel. -/
theorem band_apply (p : Fin 720) (q : Fin 1440) : band (ix2 p q) = bit (edge p.val q.val) := by
  refine eq_bit ?_
  have hr : broadcastInDim S720x1440 ![0, 1] bcast_S720x1_S720x1440_0_1
      (broadcastInDim S720x1 ![0] bcast_S720_S720x1_0 (ends 720 710)) (ix2 p q) = ends 720 710 (ix1 p) := by
    rw [broadcastInDim_apply _ _ _ _ (ix2 p (0 : Fin 1)) fun a => match a with | ⟨0, _⟩ => rfl | ⟨1, _⟩ => rfl,
      broadcastInDim_apply _ _ _ _ (ix1 p) fun a => match a with | ⟨0, _⟩ => rfl]
  have hc : broadcastInDim S720x1440 ![0, 1] bcast_S1x1440_S720x1440_0_1
      (broadcastInDim S1x1440 ![1] bcast_S1440_S1x1440_1 (ends 1440 1430)) (ix2 p q) = ends 1440 1430 (ix1 q) := by
    rw [broadcastInDim_apply _ _ _ _ (ix2 (0 : Fin 1) q) fun a => match a with | ⟨0, _⟩ => rfl | ⟨1, _⟩ => rfl,
      broadcastInDim_apply _ _ _ _ (ix1 q) fun a => match a with | ⟨0, _⟩ => rfl]
  show IntOp.ori (broadcastInDim S720x1440 ![0, 1] bcast_S720x1_S720x1440_0_1
      (broadcastInDim S720x1 ![0] bcast_S720_S720x1_0 (ends 720 710)) (ix2 p q)) (broadcastInDim S720x1440 ![0, 1] bcast_S1x1440_S720x1440_0_1
      (broadcastInDim S1x1440 ![1] bcast_S1440_S1x1440_1 (ends 1440 1430)) (ix2 p q)) = 1#1 ↔ _
  rw [hr, hc, ends_apply (by norm_num) (by norm_num), ends_apply (by norm_num) (by norm_num), IntOp.ori_eq_one]
  exact or_congr bit_eq_one bit_eq_one

/-- One number at every pixel. -/
theorem splat_apply (b : BitVec 32) (k : (Sh 720 1440).Idx) : splat b k = Ideal.ofBits .f32 b := rfl

/-- A pixel of the image lies in it. -/
theorem inImg_of (p : Fin 720) (q : Fin 1440) : inImg p.val q.val := by
  have := p.isLt; have := q.isLt; unfold inImg; omega

/-- The band's ones at a pixel. -/
theorem bandOnes_apply (p : Fin 720) (q : Fin 1440) : bandOnes (ix2 p q) = edgeOnes p.val q.val := by
  show (((band (ix2 p q)).toNat : ℝ) : EReal) = _
  rw [band_apply]
  unfold edgeOnes
  by_cases he : edge p.val q.val <;> simp [he, inImg_of p q]

/-- The rest's ones at a pixel. -/
theorem restOnes_apply (p : Fin 720) (q : Fin 1440) : restOnes (ix2 p q) = innerOnes p.val q.val := by
  show splat 0x3F800000#32 (ix2 p q) - bandOnes (ix2 p q) = _
  rw [bandOnes_apply, splat_apply, Ideal.ofBits_one_f32]
  unfold edgeOnes innerOnes
  by_cases he : edge p.val q.val <;> simp [he, inImg_of p q]
  rw [← EReal.coe_one, ← EReal.coe_sub]; simp

/-- The band's ones, read anywhere. -/
theorem ext_bandOnes (i j : ℤ) : ext bandOnes i j = edgeOnes i j :=
  ext_eq_of bandOnes_apply (fun i j H => if_neg fun h => H h.1) i j

/-- The rest's ones, read anywhere. -/
theorem ext_restOnes (i j : ℤ) : ext restOnes i j = innerOnes i j :=
  ext_eq_of restOnes_apply (fun i j H => if_neg fun h => H h.1) i j

/-- The padded image is the image read two rows up and two columns left. -/
theorem padded_apply (a : Plane 720 1440) (p : Fin 724) (q : Fin 1444) :
    padded a (ix2 p q) = ext a ((p.val : ℤ) - 2) ((q.val : ℤ) - 2) := by
  have hp := p.isLt
  have hq := q.isLt
  unfold padded ext
  by_cases hin : (0 ≤ (p.val : ℤ) - 2 ∧ (p.val : ℤ) - 2 < (720 : ℕ)) ∧ (0 ≤ (q.val : ℤ) - 2 ∧ (q.val : ℤ) - 2 < (1440 : ℕ))
  · rw [dif_pos hin]
    refine pad_apply_of_inside _ _ _ a _ _ _ (ix2 p q) _ fun k => match k with
      | ⟨0, _⟩ => ?_
      | ⟨1, _⟩ => ?_
    · show p.val = 2 + ((p.val : ℤ) - 2).toNat * 1; omega
    · show q.val = 2 + ((q.val : ℤ) - 2).toNat * 1; omega
  · rw [dif_neg hin]
    have z : (sitofp .f32 (constantI S_ 32 0#32) : FVec Ideal S_ .f32) (Shape.Idx.first h_S_) = 0 := by
      show (((0#32 : BitVec 32).toInt : ℝ) : EReal) = 0
      simp
    rw [← z]
    by_cases h0 : 0 ≤ (p.val : ℤ) - 2 ∧ (p.val : ℤ) - 2 < (720 : ℕ)
    · refine pad_apply_of_not_inside _ _ _ a _ _ _ (ix2 p q) 1 ?_
      show ¬ (2 ≤ q.val ∧ (q.val - 2) % 1 = 0 ∧ (q.val - 2) / 1 < 1440)
      omega
    · refine pad_apply_of_not_inside _ _ _ a _ _ _ (ix2 p q) 0 ?_
      show ¬ (2 ≤ p.val ∧ (p.val - 2) % 1 = 0 ∧ (p.val - 2) / 1 < 720)
      omega

/-- The twenty-five shifted images added up give the window sum. -/
theorem boxSum_apply (a : Plane 720 1440) (p : Fin 720) (q : Fin 1440) :
    boxSum (splat 0x00000000#32) (padded a) (ix2 p q) = win (ext a) p.val q.val := by
  have term : ∀ d e : Fin 5, cut 720 1440 d.val e.val (padded a) (by omega) (by omega) (ix2 p q) =
      ext a ((p.val : ℤ) + (d.val : ℤ) - 2) ((q.val : ℤ) + (e.val : ℤ) - 2) := fun d e => by
    rw [cut_apply, padded_apply]
    congr 1 <;> push_cast <;> omega
  rw [win_eq_sum]
  simp only [boxSum, List.foldl, addf_apply, term, splat_apply, Ideal.ofBits_zero_f32, Fin.sum_univ_five, zero_add, add_assoc]

/-- The number of marked pixels of a window, at least one. -/
theorem count_apply (a : Plane 720 1440) (p : Fin 720) (q : Fin 1440) :
    count a (ix2 p q) = max (win (ext a) p.val q.val) 1 := by
  show max (boxSum (splat 0x00000000#32) (padded a) (ix2 p q)) (splat 0x3F800000#32 (ix2 p q)) = _
  rw [boxSum_apply, splat_apply, Ideal.ofBits_one_f32]

/-- The word of minus one. -/
theorem ofBits_neg_one : Ideal.ofBits .f32 0xBF800000#32 = -1 := by
  simp [Ideal.ofBits, Ideal.ieee, -EReal.coe_mul]; norm_num

/-- The factor on the band's window sum at a pixel. -/
theorem edgeTable_apply (p : Fin 720) (q : Fin 1440) : edgeTable (ix2 p q) = edgeWeight p.val q.val := by
  show Scalar.select (band (ix2 p q)) (Ideal.div (splat 0x3F800000#32 (ix2 p q)) (count bandOnes (ix2 p q)))
    (Ideal.div (splat 0xBF800000#32 (ix2 p q)) (count restOnes (ix2 p q))) = _
  rw [band_apply, select_bit, count_apply, count_apply, splat_apply, splat_apply, Ideal.ofBits_one_f32, ofBits_neg_one,
    funext₂ ext_bandOnes, funext₂ ext_restOnes]
  rfl

/-- The factor on the whole window sum at a pixel. -/
theorem innerTable_apply (p : Fin 720) (q : Fin 1440) : innerTable (ix2 p q) = innerWeight p.val q.val := by
  show Scalar.select (band (ix2 p q)) (splat 0x00000000#32 (ix2 p q))
    (Ideal.div (splat 0x3F800000#32 (ix2 p q)) (count restOnes (ix2 p q))) = _
  rw [band_apply, select_bit, count_apply, splat_apply, splat_apply, Ideal.ofBits_one_f32, Ideal.ofBits_zero_f32,
    funext₂ ext_restOnes]
  rfl

/-! ## The three blocks of weights -/

variable {h w : ℕ}

/-- The first plane of a block of two. -/
theorem pairOf_first (a b : Plane h w) (p : Fin h) (q : Fin w) : pairOf a b (ix3 0 p q) = a (ix2 p q) := by
  unfold pairOf
  refine (concatenate_pair_apply_left (t := ⟨3, ![2, h, w]⟩) (s₁ := ⟨3, ![1, h, w]⟩) (s₂ := ⟨3, ![1, h, w]⟩) 0 _ _ paired (ix3 (0 : Fin 2) p q) rfl (ix3 (0 : Fin 1) p q)
    fun k => match k with | ⟨0, _⟩ => rfl | ⟨1, _⟩ => rfl | ⟨2, _⟩ => rfl).trans ?_
  refine broadcastInDim_apply _ _ _ _ (ix2 p q) fun k => match k with | ⟨0, _⟩ => ?_ | ⟨1, _⟩ => ?_
  · show p.val = if h = 1 then 0 else p.val; have := p.isLt; split_ifs <;> omega
  · show q.val = if w = 1 then 0 else q.val; have := q.isLt; split_ifs <;> omega

/-- The second plane of a block of two. -/
theorem pairOf_second (a b : Plane h w) (p : Fin h) (q : Fin w) : pairOf a b (ix3 1 p q) = b (ix2 p q) := by
  unfold pairOf
  refine (concatenate_pair_apply_right (t := ⟨3, ![2, h, w]⟩) (s₁ := ⟨3, ![1, h, w]⟩) (s₂ := ⟨3, ![1, h, w]⟩) 0 _ _ paired (ix3 (1 : Fin 2) p q) rfl rfl (ix3 (0 : Fin 1) p q)
    (fun k hk => match k with | ⟨0, _⟩ => absurd rfl hk | ⟨1, _⟩ => rfl | ⟨2, _⟩ => rfl) rfl).trans ?_
  refine broadcastInDim_apply _ _ _ _ (ix2 p q) fun k => match k with | ⟨0, _⟩ => ?_ | ⟨1, _⟩ => ?_
  · show p.val = if h = 1 then 0 else p.val; have := p.isLt; split_ifs <;> omega
  · show q.val = if w = 1 then 0 else q.val; have := q.isLt; split_ifs <;> omega

/-- A block of two planes that hold the two factors of the pixels under it is a block of weights. -/
theorem weights_pairOf {a b : Plane h w} {row col : ℤ → ℤ} (ha : ∀ p q, a (ix2 p q) = edgeWeight (row p.val) (col q.val))
    (hb : ∀ p q, b (ix2 p q) = innerWeight (row p.val) (col q.val)) : Weights (pairOf a b) row col := fun p q =>
  ⟨(pairOf_first a b p q).trans (ha p q), (pairOf_second a b p q).trans (hb p q)⟩

/-- A block of sixteen rows of the weights. -/
theorem weights_rows (r : ℕ) (hr : r + 16 ≤ 720) :
    Weights (pairOf (cut 16 1440 r 0 edgeTable hr (by omega)) (cut 16 1440 r 0 innerTable hr (by omega)))
      (fun i => r + i) fun j => j :=
  weights_pairOf (fun p q => by rw [cut_apply, edgeTable_apply]; push_cast; rw [zero_add])
    fun p q => by rw [cut_apply, innerTable_apply]; push_cast; rw [zero_add]

/-- The two sides of a plane at a point. -/
theorem sides_apply {X : Plane 720 1440} {f : ℤ → ℤ → EReal} (hX : ∀ p q, X (ix2 p q) = f p.val q.val) (p : Fin 720) (q : Fin 32) :
    sides X (ix2 p q) = f p.val (sideCol q.val) := by
  unfold sides sideCol
  rw [abut_apply]
  split_ifs with G G' G'
  · rw [cut_apply, hX]; push_cast; rw [zero_add, zero_add]
  · omega
  · omega
  · rw [cut_apply, hX]; push_cast
    congr 1 <;> omega

/-- The weights of the two sides. -/
theorem weights_sides : Weights (pairOf (sides edgeTable) (sides innerTable)) (fun i => i) sideCol :=
  weights_pairOf (sides_apply edgeTable_apply) (sides_apply innerTable_apply)

end Cert.Smooth

end
-- ==== Proof.ReferenceValue.lean ====
/-
  What the reference computes at a pixel of an image: the average of the window's pixels of the pixel's own class.
-/
module

public import proofs.«01_k».proof.Proof.TableValue
public import proofs.«01_k».proof.Proof.Gen.ReferenceIdeal.Read

@[expose] public section

noncomputable section

namespace Cert.Smooth

open Cert.ReferenceIdeal.Read
open Idealize.ShloMosaic Idealize.ShloMosaic.ValueIdx

/-- The images: four groups of sixteen. -/
abbrev Images : Type := Stack 4 16 720 1440

/-- An index of a plane with two given coordinates. -/
theorem two_axes {h w : ℕ} {k : (Sh h w).Idx} {p : Fin h} {q : Fin w} (h0 : k 0 = p) (h1 : k 1 = q) : k = ix2 p q :=
  funext fun a => match a with | ⟨0, _⟩ => h0 | ⟨1, _⟩ => h1

/-- The reference's mask is the band. -/
theorem mask_eq : val_main_v16 (F := Ideal) = band := rfl

/-- Its ones on the band. -/
theorem maskOnes_eq : val_main_v17 (F := Ideal) = bandOnes := rfl

/-- Its ones off the band. -/
theorem maskRest_eq : val_main_v19 (F := Ideal) = restOnes := rfl

/-- The images times the band's ones. -/
def onBand (x : Images) : Images := val_main_v22 (F := Ideal) x

/-- The images times the ones off the band. -/
def offBand (x : Images) : Images := val_main_v26 (F := Ideal) x

/-- The reference's result. -/
def smoothed (x : Images) : Images := val_main_v34 (F := Ideal) x

/-- An image times the band's ones is its part on the band. -/
theorem ext_onBand (x : Images) (a : Fin 4) (b : Fin 16) (i j : ℤ) :
    ext (layer (onBand x) a b) i j = edgePart (ext (layer x a b)) i j := by
  refine ext_eq_of (fun p q => ?_) (fun i j H => ?_) i j
  · show x (ix4 a b p q) * val_main_v21 (F := Ideal) (ix4 a b p q) = _
    rw [val_main_v21_apply, val_main_v20_apply, maskOnes_eq, show idx_main_v20 (idx_main_v21 (ix4 a b p q)) = ix2 p q from two_axes rfl rfl, bandOnes_apply]
    unfold edgePart edgeOnes
    rw [ext_nat _ p.isLt q.isLt]
    by_cases he : edge p.val q.val
    · simp only [he, inImg_of p q, and_self, if_true, mul_one]; rfl
    · simp only [he, and_false, if_false, mul_zero]
  · unfold edgePart; rw [ext_out _ H, ite_self]

/-- An image times the ones off the band is its part off the band. -/
theorem ext_offBand (x : Images) (a : Fin 4) (b : Fin 16) (i j : ℤ) :
    ext (layer (offBand x) a b) i j = innerPart (ext (layer x a b)) i j := by
  refine ext_eq_of (fun p q => ?_) (fun i j H => ?_) i j
  · show x (ix4 a b p q) * val_main_v25 (F := Ideal) (ix4 a b p q) = _
    rw [val_main_v25_apply, val_main_v24_apply, maskRest_eq, show idx_main_v24 (idx_main_v25 (ix4 a b p q)) = ix2 p q from two_axes rfl rfl, restOnes_apply]
    unfold innerPart innerOnes
    rw [ext_nat _ p.isLt q.isLt]
    by_cases he : edge p.val q.val
    · simp only [he, not_true, and_false, if_false, if_true, mul_zero]
    · simp only [he, inImg_of p q, not_false_iff, and_self, if_true, if_false, mul_one]; rfl
  · unfold innerPart; rw [ext_out _ H, ite_self]

/-- The window sum of the images on the band. -/
theorem sum_onBand (x : Images) (a : Fin 4) (b : Fin 16) (p : Fin 720) (q : Fin 1440) :
    val_main_v23 (F := Ideal) x (ix4 a b p q) = win (edgePart (ext (layer x a b))) p.val q.val := by
  rw [← funext₂ (ext_onBand x a b)]
  exact windowSum_stack (onBand x) _ _ _ Ideal.ofBits_zero_f32 a b p q

/-- The window sum of the images off the band. -/
theorem sum_offBand (x : Images) (a : Fin 4) (b : Fin 16) (p : Fin 720) (q : Fin 1440) :
    val_main_v27 (F := Ideal) x (ix4 a b p q) = win (innerPart (ext (layer x a b))) p.val q.val := by
  rw [← funext₂ (ext_offBand x a b)]
  exact windowSum_stack (offBand x) _ _ _ Ideal.ofBits_zero_f32 a b p q

/-- The number of pixels of a window on the band. -/
theorem count_onBand (p : Fin 720) (q : Fin 1440) : val_main_v28 (F := Ideal) (ix2 p q) = win edgeOnes p.val q.val := by
  rw [← funext₂ ext_bandOnes]
  unfold val_main_v28
  rw [maskOnes_eq]
  exact windowSum_plane bandOnes _ _ _ Ideal.ofBits_zero_f32 p q

/-- The number of pixels of a window off the band. -/
theorem count_offBand (p : Fin 720) (q : Fin 1440) : val_main_v29 (F := Ideal) (ix2 p q) = win innerOnes p.val q.val := by
  rw [← funext₂ ext_restOnes]
  unfold val_main_v29
  rw [maskRest_eq]
  exact windowSum_plane restOnes _ _ _ Ideal.ofBits_zero_f32 p q

/-- The reference's result at a pixel is the average. -/
theorem reference_value (x : Images) (a : Fin 4) (b : Fin 16) (p : Fin 720) (q : Fin 1440) :
    smoothed x (ix4 a b p q) = average (ext (layer x a b)) p.val q.val := by
  unfold smoothed
  rw [val_main_v34_apply, Ideal.hostDivf_def, val_main_v30_apply, val_main_call0_v0_apply, val_main_v33_apply, val_main_v32_apply,
    val_main_v31_apply, sum_onBand, sum_offBand, mask_eq,
    show idx_main_call0_v0 (ix4 a b p q) = ix2 p q from two_axes rfl rfl,
    show idx_main_v32 (idx_main_v33 (ix4 a b p q)) = ix2 p q from two_axes rfl rfl,
    band_apply, select_bit, select_bit, count_onBand, count_offBand]
  rfl

end Cert.Smooth

end
-- ==== Proof.Result.lean ====
/-
  What the kernel's result holds: at every pixel of every image the average, when the images hold real numbers.
-/
module

public import proofs.«01_k».proof.Proof.TableValue
public import Idealize.ShloMosaic.Lib.Pipeline.ValueKit

@[expose] public section

noncomputable section

namespace Cert.Smooth

open Cert.KernelIdeal Cert.KernelIdeal.Gen
open Idealize.ShloMosaic hiding ix2 ix3 ix4
open Idealize.ShloMosaic.TcCoe Idealize.ShloMosaic.ValueIdx Idealize.SL.Sem

variable (m : (ℓ : Loc nD τ sig) → Buf (Elt Ideal) ℓ)

/-- The sixty-four images as one list of planes. -/
abbrev Listed : Type := FVec Ideal ⟨3, ![64, 720, 1440]⟩ .f32

/-- One image of the list. -/
def image (x : Listed) (n : Fin 64) : Plane 720 1440 := fun k => x (ix3 n (k 0) (k 1))

/-- The images as the kernel finds them. -/
def images (c : Dev nD) : Listed := V m c main_v0

/-- The smoothed images. -/
def averages (x : Listed) : Listed := fun k => average (ext (image x (k 0))) ((k 1).val : ℕ) ((k 2).val : ℕ)

/-- The block indices of the five windows at a grid point. -/
theorem block_index : ∀ t : Fin grid0.N, win0_0.index t = ![t.val, 0, 0] ∧ win0_1.index t = ![0, 0, 0] ∧
    win0_2.index t = ![0, 0, 0] ∧ win0_3.index t = ![0, 0, 0] ∧ win0_4.index t = ![t.val, 0, 0] := by
  decide +kernel

/-- The first window's block at grid point `t` holds the images `2 t` and `2 t + 1`. -/
theorem block_images (c : Dev nD) (t : Fin cfg0.N) (b : Fin 2) (p : Fin 720) (q : Fin 1440) (n : Fin 64)
    (hn : n.val = 2 * t.val + b.val) : iblk m c 0 t (ix3 b p q) = images m c (ix3 n p q) := by
  blk_ext [iblk, images, (block_index t).1]
  show t.val * 2 + b.val = n.val
  omega

/-- The second window's block is the whole block of the top weights. -/
theorem block_top (c : Dev nD) (t : Fin cfg0.N) : iblk m c 1 t = V m c main_v141 :=
  funext fun y => by blk_ext [iblk, (block_index t).2.1]

/-- The third window's block is the whole block of the bottom weights. -/
theorem block_low (c : Dev nD) (t : Fin cfg0.N) : iblk m c 2 t = V m c main_v146 :=
  funext fun y => by blk_ext [iblk, (block_index t).2.2.1]

/-- The fourth window's block is the whole block of the sides' weights. -/
theorem block_sides (c : Dev nD) (t : Fin cfg0.N) : iblk m c 3 t = V m c main_v155 :=
  funext fun y => by blk_ext [iblk, (block_index t).2.2.2.1]

/-- Two planes with equal entries are equal. -/
theorem planes_eq {h w : ℕ} {a b : Plane h w} (H : ∀ (p : Fin h) (q : Fin w), a (ix2 p q) = b (ix2 p q)) : a = b :=
  funext fun k => by rw [ValueIdx.eq_ix2 k]; exact H (k 0) (k 1)

/-- What the body leaves at a pixel of one of the two images of grid point `t` is the image's average there. -/
theorem left_value (c : Dev nD) {v : Fin 64 → ℤ → ℤ → ℝ} (hX : ∀ n i j, ext (image (images m c) n) i j = (v n i j : EReal))
    (t : Fin cfg0.N) (b : Fin 2) (p : Fin 720) (q : Fin 1440) (n : Fin 64) (hn : n.val = 2 * t.val + b.val) :
    Ideals.left m c t (ix3 b p q) = averages (images m c) (ix3 n p q) := by
  have ht : t.val < 32 := t.isLt
  have planes : ∀ (b : Fin 2) (n : Fin 64), n.val = 2 * t.val + b.val → plane b (iblk m c 0 t) = image (images m c) n :=
    fun b n hn => planes_eq fun p q => by rw [plane_apply, block_images m c t b p q n hn]; rfl
  have real : ∀ (b : Fin 2) (i j : ℤ), ext (plane b (iblk m c 0 t)) i j =
      (v ⟨2 * t.val + b.val, by have := b.isLt; omega⟩ i j : EReal) := fun b i j => by
    rw [planes b ⟨2 * t.val + b.val, by have := b.isLt; omega⟩ rfl, hX]
  have h1 := (read_tables m c).1
  have h2 := (read_tables m c).2.1
  have h3 := (read_tables m c).2.2
  unfold Ideals.left
  rw [View.read_writes_eq_canon _ _ _ (Ideals.stores_cover m c t), stores_eq,
    block_value (iblk m c 0 t) real
      (by rw [block_top, h1]; simpa using weights_rows 0 (by omega)) (by rw [block_low, h2]; exact weights_rows 704 (by omega))
      (by rw [block_sides, h3]; exact weights_sides) b p q, planes b n hn]
  rfl

/-- The kernel's result array: every image smoothed. -/
theorem array_value (c : Dev nD) {v : Fin 64 → ℤ → ℤ → ℝ} (hX : ∀ n i j, ext (image (images m c) n) i j = (v n i j : EReal)) :
    (Ideals.held m 0 c).arrAt 4 cfg0.N = averages (images m c) := by
  refine (Ideals.held m 0 c).arrAt_eq_of_covers 4 _ (by decide +kernel) fun t _ y => ?_
  have ht : t.val < 32 := t.isLt
  have hy : (y 0).val < 2 := (y 0).isLt
  blk_simp
  rw [Ideals.held_after4]
  refine (show _ = Ideals.left m c t (ix3 (n0 := 2) (n1 := 720) (n2 := 1440) (y 0) (y 1) (y 2)) from ?_).trans
    ((left_value m c hX t (y 0) (y 1) (y 2) ⟨2 * t.val + (y 0).val, by omega⟩ rfl).trans ?_)
  · exact congrArg (Ideals.left m c t) (ValueIdx.eq_ix3 (n0 := 2) (n1 := 720) (n2 := 1440) y)
  · refine congrArg (averages (images m c)) ?_
    blk_ext [(block_index t).2.2.2.2]

end Cert.Smooth

end
-- ==== Proof.Equation.lean ====
/-
  The two programs' results are the same images.
-/
module

public import proofs.«01_k».proof.Proof.Finite
public import proofs.«01_k».proof.Proof.KernelRun
public import proofs.«01_k».proof.Proof.ReferenceValue
public import proofs.«01_k».proof.Proof.Result

@[expose] public section

noncomputable section

namespace Cert.Smooth

open Cert.KernelIdeal Cert.KernelIdeal.Gen
open Idealize.ShloMosaic hiding ix2 ix3 ix4
open Idealize.ShloMosaic.TcCoe Idealize.ShloMosaic.ValueIdx Idealize.SL.Sem

variable (m : (ℓ : Loc nD τ sig) → Buf (Elt Ideal) ℓ)

/-- The argument as images. -/
def given (c : Dev nD) : Images := m ((c : Thread nD τ).loc main_arg0)

/-- The place of image `b` of group `a` in the list. -/
def place (a : Fin 4) (b : Fin 16) : Fin 64 := ⟨16 * a.val + b.val, by omega⟩

/-- A pixel's place in memory is the same in the list as in the groups. -/
theorem same_place (a : Fin 4) (b : Fin 16) (p : Fin 720) (q : Fin 1440) :
    (S64x720x1440.rowMajor (ix3 (place a b) p q)).val = (S4x16x720x1440.rowMajor (ix4 a b p q)).val := by
  rw [Shape.rowMajor_val_three, Shape.rowMajor_val_four]
  show ((16 * a.val + b.val) * 720 + p.val) * 1440 + q.val = ((a.val * 16 + b.val) * 720 + p.val) * 1440 + q.val
  omega

/-- The kernel's list holds the argument's images in order. -/
theorem image_eq (c : Dev nD) (a : Fin 4) (b : Fin 16) : image (images m c) (place a b) = layer (given m c) a b :=
  funext fun k => by
    show images m c (ix3 (place a b) (k 0) (k 1)) = given m c (ix4 a b (k 0) (k 1))
    unfold images
    rw [read_images]
    exact shapeCast_apply _ _ _ _ (same_place a b (k 0) (k 1)).symm

/-- When the argument's entries are real, so are the list's. -/
theorem images_real (c : Dev nD) (H : ∀ k, (((given m c k).toReal : ℝ) : EReal) = given m c k) (k : S64x720x1440.Idx) :
    (((images m c k).toReal : ℝ) : EReal) = images m c k := by
  unfold images
  rw [read_images]
  exact H _

/-- The list's averages at a pixel are the reference's. -/
theorem averages_eq (c : Dev nD) (a : Fin 4) (b : Fin 16) (p : Fin 720) (q : Fin 1440) :
    averages (images m c) (ix3 (place a b) p q) = smoothed (given m c) (ix4 a b p q) := by
  rw [reference_value, ← image_eq]
  rfl

/-- When the argument's entries are real, the kernel's result is the reference's. -/
theorem results_equal (c : Dev nD) (H : ∀ k, (((given m c k).toReal : ℝ) : EReal) = given m c k) :
    shapeCast S4x16x720x1440 (Ideals.output m c) shapeCasts_S64x720x1440_S4x16x720x1440 = smoothed (given m c) := by
  have hX : ∀ n i j, ext (image (images m c) n) i j = (((ext (image (images m c) n) i j).toReal : ℝ) : EReal) := fun n i j =>
    ext_real (a := image (images m c) n) (fun k => images_real m c H (ix3 n (k 0) (k 1))) i j
  unfold Ideals.output
  rw [array_value m c hX]
  funext k
  rw [ValueIdx.eq_ix4 k]
  exact (shapeCast_apply _ _ _ _ (same_place (k 0) (k 1) (k 2) (k 3))).trans (averages_eq m c (k 0) (k 1) (k 2) (k 3))

end Cert.Smooth

end
-- ==== Proof.ReferenceRun.lean ====
/-
  The reference's run: its result is the smoothed images, its argument ends unchanged, and it has no counter to leave nonzero.
-/
module

public import proofs.«01_k».proof.Proof.ReferenceValue
public import Idealize.ShloMosaic.Lib.Quiescent

@[expose] public section

noncomputable section

namespace Cert.Smooth.Reference

open Cert.ReferenceIdeal Cert.ReferenceIdeal.Gen
open Idealize.ShloMosaic Idealize.ShloMosaic.TcCoe Idealize.SL.Sem

variable (m : (ℓ : Loc nD τ sig) → Buf (Elt Ideal) ℓ) (ρ : Dev nD → PrngReg)

/-- Every run ends with the result at the smoothed images and the argument unchanged. -/
theorem result : θ_run defs (onTc (τ := τ) (main (F := Ideal))) ⟨m, fun _ => 0, ρ⟩ (fun r => ∀ c : Dev nD,
      r.2.mem ((c.tc : Thread nD τ).loc main_v34) = smoothed (m ((c.tc : Thread nD τ).loc main_arg0))
      ∧ r.2.mem ((c.tc : Thread nD τ).loc main_arg0) = m ((c.tc : Thread nD τ).loc main_arg0)) :=
  (θ_run defs _ _).mono (fun _ h c => ⟨(h c).1.trans (Read.val_main_v34_eq m c), (h c).2⟩) (Value.run m ρ)

/-- Every run ends with the argument unchanged and every counter at zero. -/
theorem unchanged : θ_run defs (onTc (τ := τ) (main (F := Ideal))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun r h => ⟨fun c => (h c).2, sem_eq_zero_of_no_sems (by decide) r.2⟩) (result m ρ)

end Cert.Smooth.Reference

end
-- ==== Proof.lean ====
/-
  The proof of the claims: the programs run and leave their argument as it was, the exact program is the printed one with its
  constant named, and on real images the exact program's result is the reference's.
-/
module

public import proofs.«01_k».proof.Defs

public import proofs.«01_k».proof.Proof.Gen.ReferenceIdeal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame.RunA
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame.RunA
public import proofs.«01_k».proof.Proof.Gen.ReferenceIdeal
public import proofs.«01_k».proof.Proof.LaunchWords
public import proofs.«01_k».proof.Proof.Equation
public import proofs.«01_k».proof.Proof.ReferenceRun
public import Idealize.ShloMosaic.Adequacy
public import Idealize.ShloMosaic.Init

@[expose] public section

noncomputable section

namespace Cert.Proof

open Idealize.ShloMosaic Idealize.SL.Sem Cert.Smooth

/-- On real images both programs end with the reference's smoothed images, and with their arguments unchanged. -/
theorem equal_results :
    Cert.algebraic_KernelIdeal_ReferenceIdeal_pre_finite (hKernelIdeal := Cert.KernelIdeal.Gen.facts)
      (hReferenceIdeal := Cert.ReferenceIdeal.Gen.facts) (hPre_finite := finite_facts) := fun m g m' g' hpre hsame =>
  have := finite_facts
  ⟨fun c => smoothed (given m c),
    (θ_run _ _ _).mono (fun _ h c => ⟨(h c).1.trans (results_equal m c (entries_real (hpre c))), (h c).2⟩) (Ideals.result m g),
    (θ_run _ _ _).mono (fun _ h c => ⟨(h c).1.trans (congrArg smoothed (hsame c)), (h c).2⟩) (Reference.result m' g')⟩

/-- Everything claimed. -/
theorem claim : Cert.Claim :=
  ⟨Cert.Kernel.Gen.facts, Cert.KernelIdeal.Gen.facts, Cert.ReferenceIdeal.Gen.facts, finite_facts,
    fun m g _ => Words.unchanged m g,
    fun m g _ => Ideals.unchanged m g,
    fun m g _ => Ideals.unchanged m g,
    fun m g _ => Reference.unchanged m g,
    fun m g _ => Reference.unchanged m g,
    IdealRules.named_const.statement Cert.KernelIdeal.κ "inv25" .f32 0x3D23D70A#32 ((1 / 25 : ℝ) : EReal) rfl,
    equal_results⟩

end Cert.Proof

end
